-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_finite_oproj_scales [hPre_finite_oproj_scales : Cert.Pre_finite_oproj_scales.Facts] (m : (ℓ : Loc Cert.OprojIdeal.nD Cert.OprojIdeal.τ Cert.OprojIdeal.sig) → Buf (Elt Ideal) ℓ) : Prop :=
  ∀ c : Dev Cert.OprojIdeal.nD,
    (Cert.Pre_finite_oproj_scales.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5))) = (fun _ => 1#1)

def Pre_OprojReferenceIdeal (m : (ℓ : Loc Cert.OprojReferenceIdeal.nD Cert.OprojReferenceIdeal.τ Cert.OprojReferenceIdeal.sig) → Buf (Elt Ideal) ℓ) : Prop :=
  True

def Pre_OprojReferenceIdeal_finite_oproj_scales [hPre_finite_oproj_scales : Cert.Pre_finite_oproj_scales.Facts] (m : (ℓ : Loc Cert.OprojReferenceIdeal.nD Cert.OprojReferenceIdeal.τ Cert.OprojReferenceIdeal.sig) → Buf (Elt Ideal) ℓ) : Prop :=
  ∀ c : Dev Cert.OprojReferenceIdeal.nD,
    (Cert.Pre_finite_oproj_scales.fn (F := Ideal) (m ((c.tc : Thread Cert.OprojReferenceIdeal.nD Cert.OprojReferenceIdeal.τ).loc Cert.OprojReferenceIdeal.main_arg0)) (m ((c.tc : Thread Cert.OprojReferenceIdeal.nD Cert.OprojReferenceIdeal.τ).loc Cert.OprojReferenceIdeal.main_arg1)) (m ((c.tc : Thread Cert.OprojReferenceIdeal.nD Cert.OprojReferenceIdeal.τ).loc Cert.OprojReferenceIdeal.main_arg2)) (m ((c.tc : Thread Cert.OprojReferenceIdeal.nD Cert.OprojReferenceIdeal.τ).loc Cert.OprojReferenceIdeal.main_arg3)) (m ((c.tc : Thread Cert.OprojReferenceIdeal.nD Cert.OprojReferenceIdeal.τ).loc Cert.OprojReferenceIdeal.main_arg4)) (m ((c.tc : Thread Cert.OprojReferenceIdeal.nD Cert.OprojReferenceIdeal.τ).loc Cert.OprojReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojIdeal_pre_finite_oproj_scales [hOprojIdeal : Cert.OprojIdeal.Facts] [hPre_finite_oproj_scales : Cert.Pre_finite_oproj_scales.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_finite_oproj_scales m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5))
      ∧ r.2.sem = fun _ => 0)

def quiescent_OprojReferenceIdeal_pre_finite_oproj_scales [hOprojReferenceIdeal : Cert.OprojReferenceIdeal.Facts] [hPre_finite_oproj_scales : Cert.Pre_finite_oproj_scales.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal_finite_oproj_scales m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Oproj_OprojIdeal : Prop :=
  True

def algebraic_OprojIdeal_OprojReferenceIdeal_pre_finite_oproj_scales [hOprojIdeal : Cert.OprojIdeal.Facts] [hOprojReferenceIdeal : Cert.OprojReferenceIdeal.Facts] [hPre_finite_oproj_scales : Cert.Pre_finite_oproj_scales.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal_finite_oproj_scales m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)
      ∧ m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v38) = v0 c
          ∧ r.2.mem ((c.tc : Thread Cert.OprojReferenceIdeal.nD Cert.OprojReferenceIdeal.τ).loc Cert.OprojReferenceIdeal.main_v53) = v1 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5))

def Claim : Prop :=
  ∃ (hKernel : Cert.Kernel.Facts) (hKernelIdeal : Cert.KernelIdeal.Facts) (hReferenceIdeal : Cert.ReferenceIdeal.Facts) (hOproj : Cert.Oproj.Facts) (hOprojIdeal : Cert.OprojIdeal.Facts) (hOprojReferenceIdeal : Cert.OprojReferenceIdeal.Facts) (hPre_finite_scales : Cert.Pre_finite_scales.Facts) (hPre_finite_oproj_scales : Cert.Pre_finite_oproj_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ quiescent_Oproj (hOproj := hOproj)
    ∧ quiescent_OprojIdeal (hOprojIdeal := hOprojIdeal)
    ∧ quiescent_OprojIdeal_pre_finite_oproj_scales (hOprojIdeal := hOprojIdeal) (hPre_finite_oproj_scales := hPre_finite_oproj_scales)
    ∧ quiescent_OprojReferenceIdeal (hOprojReferenceIdeal := hOprojReferenceIdeal)
    ∧ quiescent_OprojReferenceIdeal_pre_finite_oproj_scales (hOprojReferenceIdeal := hOprojReferenceIdeal) (hPre_finite_oproj_scales := hPre_finite_oproj_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
    ∧ preserves_Oproj_OprojIdeal
    ∧ algebraic_OprojIdeal_OprojReferenceIdeal_pre_finite_oproj_scales (hOprojIdeal := hOprojIdeal) (hOprojReferenceIdeal := hOprojReferenceIdeal) (hPre_finite_oproj_scales := hPre_finite_oproj_scales)
-- ==== Pre_finite_oproj_scales.lean ====
abbrev S3200x3584 : Shape := ⟨2, ![3200, 3584]⟩
abbrev S3584 : Shape := ⟨1, ![3584]⟩
abbrev S448x3584 : Shape := ⟨2, ![448, 3584]⟩
abbrev S28x448 : Shape := ⟨2, ![28, 448]⟩
abbrev S28x3584 : Shape := ⟨2, ![28, 3584]⟩
abbrev S_ : Shape := ⟨0, ![]⟩

class Facts : Prop where
  natLt_16_32 : 16 < 32
  bcast_S_S28x3584 : S_.BroadcastsInDim S28x3584 (![] : Fin 0 → Fin S28x3584.rank)
  reducesTo_S28x3584_S_d0_1 : S28x3584.ReducesTo [0, 1] S_
  h_S_ : 0 < S_.numel

variable [Facts]

def fn {F : FTy → Type} [FloatOps F] (main_arg0 : FVec F S3200x3584 .bf16) (main_arg1 : FVec F S3200x3584 .bf16) (main_arg2 : FVec F S3584 .f32) (main_arg3 : IVec S448x3584 32) (main_arg4 : IVec S28x448 32) (main_arg5 : IVec S28x3584 16) : IVec S_ 1 :=
  let main_v0 : IVec S28x3584 32 := (extsi 32 · natLt_16_32) main_arg5
  let main_c : IVec S_ 32 := constantI S_ 32 31744#32
  let main_v1 : IVec S28x3584 32 := broadcastInDim S28x3584 ![] bcast_S_S28x3584 main_c
  let main_v2 : IVec S28x3584 32 := andi main_v0 main_v1
  let main_c_0 : IVec S_ 32 := constantI S_ 32 31744#32
  let main_v3 : IVec S28x3584 32 := broadcastInDim S28x3584 ![] bcast_S_S28x3584 main_c_0
  let main_v4 : IVec S28x3584 1 := cmpi .ne main_v2 main_v3
  let main_c_1 : IVec S_ 1 := constantI S_ 1 1#1
  let main_v5 : IVec S_ 1 := (fun x v => Host.reduce IntOp.andi x v reducesTo_S28x3584_S_d0_1 h_S_) main_v4 main_c_1
  main_v5
-- ==== Pre_finite_scales.lean ====
abbrev S3200x3584 : Shape := ⟨2, ![3200, 3584]⟩
abbrev S448x18944 : Shape := ⟨2, ![448, 18944]⟩
abbrev S28x2368 : Shape := ⟨2, ![28, 2368]⟩
abbrev S28x18944 : Shape := ⟨2, ![28, 18944]⟩
abbrev S_ : Shape := ⟨0, ![]⟩

class Facts : Prop where
  natLt_16_32 : 16 < 32
  bcast_S_S28x18944 : S_.BroadcastsInDim S28x18944 (![] : Fin 0 → Fin S28x18944.rank)
  reducesTo_S28x18944_S_d0_1 : S28x18944.ReducesTo [0, 1] S_
  h_S_ : 0 < S_.numel

variable [Facts]

def fn {F : FTy → Type} [FloatOps F] (main_arg0 : FVec F S3200x3584 .bf16) (main_arg1 : IVec S448x18944 32) (main_arg2 : IVec S28x2368 32) (main_arg3 : IVec S28x18944 16) (main_arg4 : IVec S448x18944 32) (main_arg5 : IVec S28x2368 32) (main_arg6 : IVec S28x18944 16) : IVec S_ 1 :=
  let main_v0 : IVec S28x18944 32 := (extsi 32 · natLt_16_32) main_arg3
  let main_c : IVec S_ 32 := constantI S_ 32 31744#32
  let main_v1 : IVec S28x18944 32 := broadcastInDim S28x18944 ![] bcast_S_S28x18944 main_c
  let main_v2 : IVec S28x18944 32 := andi main_v0 main_v1
  let main_c_0 : IVec S_ 32 := constantI S_ 32 31744#32
  let main_v3 : IVec S28x18944 32 := broadcastInDim S28x18944 ![] bcast_S_S28x18944 main_c_0
  let main_v4 : IVec S28x18944 1 := cmpi .ne main_v2 main_v3
  let main_c_1 : IVec S_ 1 := constantI S_ 1 1#1
  let main_v5 : IVec S_ 1 := (fun x v => Host.reduce IntOp.andi x v reducesTo_S28x18944_S_d0_1 h_S_) main_v4 main_c_1
  let main_v6 : IVec S28x18944 32 := (extsi 32 · natLt_16_32) main_arg6
  let main_c_2 : IVec S_ 32 := constantI S_ 32 31744#32
  let main_v7 : IVec S28x18944 32 := broadcastInDim S28x18944 ![] bcast_S_S28x18944 main_c_2
  let main_v8 : IVec S28x18944 32 := andi main_v6 main_v7
  let main_c_3 : IVec S_ 32 := constantI S_ 32 31744#32
  let main_v9 : IVec S28x18944 32 := broadcastInDim S28x18944 ![] bcast_S_S28x18944 main_c_3
  let main_v10 : IVec S28x18944 1 := cmpi .ne main_v8 main_v9
  let main_c_4 : IVec S_ 1 := constantI S_ 1 1#1
  let main_v11 : IVec S_ 1 := (fun x v => Host.reduce IntOp.andi x v reducesTo_S28x18944_S_d0_1 h_S_) main_v10 main_c_4
  let main_v12 : IVec S_ 1 := andi main_v5 main_v11
  main_v12
-- ==== Kernel.lean ====
abbrev S3200x3584 : Shape := ⟨2, ![3200, 3584]⟩
abbrev S448x18944 : Shape := ⟨2, ![448, 18944]⟩
abbrev S28x2368 : Shape := ⟨2, ![28, 2368]⟩
abbrev S28x18944 : Shape := ⟨2, ![28, 18944]⟩
abbrev S3200x18944 : Shape := ⟨2, ![3200, 18944]⟩
abbrev S448x256 : Shape := ⟨2, ![448, 256]⟩
abbrev S28x128 : Shape := ⟨2, ![28, 128]⟩
abbrev S28x256 : Shape := ⟨2, ![28, 256]⟩
abbrev S3200x256 : Shape := ⟨2, ![3200, 256]⟩
abbrev S3584x256 : Shape := ⟨2, ![3584, 256]⟩
abbrev S28x128x1 : Shape := ⟨3, ![28, 128, 1]⟩
abbrev S16x256 : Shape := ⟨2, ![16, 256]⟩
abbrev S1x256 : Shape := ⟨2, ![1, 256]⟩
abbrev S16x8x256 : Shape := ⟨3, ![16, 8, 256]⟩
abbrev S16x1x256 : Shape := ⟨3, ![16, 1, 256]⟩
abbrev S128x256 : Shape := ⟨2, ![128, 256]⟩
abbrev S800x3584 : Shape := ⟨2, ![800, 3584]⟩
abbrev S800x256 : Shape := ⟨2, ![800, 256]⟩

abbrev nBuf : Space → Nat
  | .hbm => 8
  | .vmem => 17
  | .smem => 0
  | _ => 0

abbrev bufTy : (tb : Table) → Fin (tcTables nBuf tb) → BufTy
  | .hbm, ⟨0, _⟩ => ⟨S3200x3584, .bf16⟩
  | .hbm, ⟨1, _⟩ => ⟨S448x18944, .i32⟩
  | .hbm, ⟨2, _⟩ => ⟨S28x2368, .i32⟩
  | .hbm, ⟨3, _⟩ => ⟨S28x18944, .i16⟩
  | .hbm, ⟨4, _⟩ => ⟨S448x18944, .i32⟩
  | .hbm, ⟨5, _⟩ => ⟨S28x2368, .i32⟩
  | .hbm, ⟨6, _⟩ => ⟨S28x18944, .i16⟩
  | .hbm, ⟨7, _⟩ => ⟨S3200x18944, .bf16⟩
  | .local _ .vmem, ⟨0, _⟩ => ⟨S3200x3584, .bf16⟩
  | .local _ .vmem, ⟨1, _⟩ => ⟨S448x256, .i32⟩
  | .local _ .vmem, ⟨2, _⟩ => ⟨S448x256, .i32⟩
  | .local _ .vmem, ⟨3, _⟩ => ⟨S28x128, .i32⟩
  | .local _ .vmem, ⟨4, _⟩ => ⟨S28x128, .i32⟩
  | .local _ .vmem, ⟨5, _⟩ => ⟨S28x256, .i16⟩
  | .local _ .vmem, ⟨6, _⟩ => ⟨S28x256, .i16⟩
  | .local _ .vmem, ⟨7, _⟩ => ⟨S448x256, .i32⟩
  | .local _ .vmem, ⟨8, _⟩ => ⟨S448x256, .i32⟩
  | .local _ .vmem, ⟨9, _⟩ => ⟨S28x128, .i32⟩
  | .local _ .vmem, ⟨10, _⟩ => ⟨S28x128, .i32⟩
  | .local _ .vmem, ⟨11, _⟩ => ⟨S28x256, .i16⟩
  | .local _ .vmem, ⟨12, _⟩ => ⟨S28x256, .i16⟩
  | .local _ .vmem, ⟨13, _⟩ => ⟨S3200x256, .bf16⟩
  | .local _ .vmem, ⟨14, _⟩ => ⟨S3200x256, .bf16⟩
  | .local _ .vmem, ⟨15, _⟩ => ⟨S3584x256, .bf16⟩
  | .local _ .vmem, ⟨16, _⟩ => ⟨S3584x256, .bf16⟩
  | _, _ => ⟨S3200x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3200x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S448x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S28x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x256 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3200x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3200x3584 : Shape := ⟨2, ![3200, 3584]⟩
abbrev S448x18944 : Shape := ⟨2, ![448, 18944]⟩
abbrev S28x2368 : Shape := ⟨2, ![28, 2368]⟩
abbrev S28x18944 : Shape := ⟨2, ![28, 18944]⟩
abbrev S8 : Shape := ⟨1, ![8]⟩
abbrev S_ : Shape := ⟨0, ![]⟩
abbrev S8x1x1 : Shape := ⟨3, ![8, 1, 1]⟩
abbrev S8x448x18944 : Shape := ⟨3, ![8, 448, 18944]⟩
abbrev S1x448x18944 : Shape := ⟨3, ![1, 448, 18944]⟩
abbrev S8x28x16x18944 : Shape := ⟨4, ![8, 28, 16, 18944]⟩
abbrev S8x28x2368 : Shape := ⟨3, ![8, 28, 2368]⟩
abbrev S1x28x2368 : Shape := ⟨3, ![1, 28, 2368]⟩
abbrev S28x2368x8 : Shape := ⟨3, ![28, 2368, 8]⟩
abbrev S1x28x1x18944 : Shape := ⟨4, ![1, 28, 1, 18944]⟩
abbrev S3200x448x8 : Shape := ⟨3, ![3200, 448, 8]⟩
abbrev S3200x18944 : Shape := ⟨2, ![3200, 18944]⟩

abbrev nBuf : Space → Nat
  | .hbm => 98
  | .vmem => 4
  | .smem => 0
  | _ => 0

abbrev bufTy : (tb : Table) → Fin (tcTables nBuf tb) → BufTy
  | .hbm, ⟨0, _⟩ => ⟨S3200x3584, .bf16⟩
  | .hbm, ⟨1, _⟩ => ⟨S448x18944, .i32⟩
  | .hbm, ⟨2, _⟩ => ⟨S28x2368, .i32⟩
  | .hbm, ⟨3, _⟩ => ⟨S28x18944, .i16⟩
  | .hbm, ⟨4, _⟩ => ⟨S448x18944, .i32⟩
  | .hbm, ⟨5, _⟩ => ⟨S28x2368, .i32⟩
  | .hbm, ⟨6, _⟩ => ⟨S28x18944, .i16⟩
  | .hbm, ⟨7, _⟩ => ⟨S28x18944, .f32⟩
  | .hbm, ⟨8, _⟩ => ⟨S28x18944, .f32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8x1x1, .i32⟩
  | .hbm, ⟨14, _⟩ => ⟨S8x448x18944, .i32⟩
  | .hbm, ⟨15, _⟩ => ⟨S1x448x18944, .i32⟩
  | .hbm, ⟨16, _⟩ => ⟨S8x448x18944, .i32⟩
  | .hbm, ⟨17, _⟩ => ⟨S8x448x18944, .i32⟩
  | .hbm, ⟨18, _⟩ => ⟨S_, .i32⟩
  | .hbm, ⟨19, _⟩ => ⟨S8x448x18944, .i32⟩
  | .hbm, ⟨20, _⟩ => ⟨S8x448x18944, .i32⟩
  | .hbm, ⟨21, _⟩ => ⟨S8x28x16x18944, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8x1x1, .i32⟩
  | .hbm, ⟨27, _⟩ => ⟨S8x28x2368, .i32⟩
  | .hbm, ⟨28, _⟩ => ⟨S1x28x2368, .i32⟩
  | .hbm, ⟨29, _⟩ => ⟨S8x28x2368, .i32⟩
  | .hbm, ⟨30, _⟩ => ⟨S8x28x2368, .i32⟩
  | .hbm, ⟨31, _⟩ => ⟨S_, .i32⟩
  | .hbm, ⟨32, _⟩ => ⟨S8x28x2368, .i32⟩
  | .hbm, ⟨33, _⟩ => ⟨S8x28x2368, .i32⟩
  | .hbm, ⟨34, _⟩ => ⟨S28x2368x8, .i32⟩
  | .hbm, ⟨35, _⟩ => ⟨S28x18944, .i32⟩
  | .hbm, ⟨36, _⟩ => ⟨S8x28x16x18944, .f32⟩
  | .hbm, ⟨37, _⟩ => ⟨S28x18944, .f32⟩
  | .hbm, ⟨38, _⟩ => ⟨S1x28x1x18944, .f32⟩
  | .hbm, ⟨39, _⟩ => ⟨S8x28x16x18944, .f32⟩
  | .hbm, ⟨40, _⟩ => ⟨S8x28x16x18944, .f32⟩
  | .hbm, ⟨41, _⟩ => ⟨S1x28x1x18944, .f32⟩
  | .hbm, ⟨42, _⟩ => ⟨S8x28x16x18944, .f32⟩
  | .hbm, ⟨43, _⟩ => ⟨S8x28x16x18944, .f32⟩
  | .hbm, ⟨44, _⟩ => ⟨S8x448x18944, .f32⟩
  | .hbm, ⟨45, _⟩ => ⟨S8x448x18944, .bf16⟩
  | .hbm, ⟨46, _⟩ => ⟨S3200x448x8, .bf16⟩
  | .hbm, ⟨47, _⟩ => ⟨S3200x18944, .f32⟩
  | .hbm, ⟨48, _⟩ => ⟨S3200x18944, .f32⟩
  | .hbm, ⟨49, _⟩ => ⟨S3200x18944, .f32⟩
  | .hbm, ⟨50, _⟩ => ⟨S_, .f32⟩
  | .hbm, ⟨51, _⟩ => ⟨S3200x18944, .f32⟩
  | .hbm, ⟨52, _⟩ => ⟨S3200x18944, .f32⟩
  | .hbm, ⟨53, _⟩ => ⟨S_, .f32⟩
  | .hbm, ⟨54, _⟩ => ⟨S3200x18944, .f32⟩
  | .hbm, ⟨55, _⟩ => ⟨S3200x18944, .f32⟩
  | .hbm, ⟨56, _⟩ => ⟨S3200x18944, .f32⟩
  | .hbm, ⟨57, _⟩ => ⟨S8, .i32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S8x1x1, .i32⟩
  | .hbm, ⟨62, _⟩ => ⟨S8x448x18944, .i32⟩
  | .hbm, ⟨63, _⟩ => ⟨S1x448x18944, .i32⟩
  | .hbm, ⟨64, _⟩ => ⟨S8x448x18944, .i32⟩
  | .hbm, ⟨65, _⟩ => ⟨S8x448x18944, .i32⟩
  | .hbm, ⟨66, _⟩ => ⟨S_, .i32⟩
  | .hbm, ⟨67, _⟩ => ⟨S8x448x18944, .i32⟩
  | .hbm, ⟨68, _⟩ => ⟨S8x448x18944, .i32⟩
  | .hbm, ⟨69, _⟩ => ⟨S8x28x16x18944, .i32⟩
  | .hbm, ⟨70, _⟩ => ⟨S8, .i32⟩
  | .hbm, ⟨71, _⟩ => ⟨S_, .i32⟩
  | .hbm, ⟨72, _⟩ => ⟨S8, .i32⟩
  | .hbm, ⟨73, _⟩ => ⟨S8, .i32⟩
  | .hbm, ⟨74, _⟩ => ⟨S8x1x1, .i32⟩
  | .hbm, ⟨75, _⟩ => ⟨S8x28x2368, .i32⟩
  | .hbm, ⟨76, _⟩ => ⟨S1x28x2368, .i32⟩
  | .hbm, ⟨77, _⟩ => ⟨S8x28x2368, .i32⟩
  | .hbm, ⟨78, _⟩ => ⟨S8x28x2368, .i32⟩
  | .hbm, ⟨79, _⟩ => ⟨S_, .i32⟩
  | .hbm, ⟨80, _⟩ => ⟨S8x28x2368, .i32⟩
  | .hbm, ⟨81, _⟩ => ⟨S8x28x2368, .i32⟩
  | .hbm, ⟨82, _⟩ => ⟨S28x2368x8, .i32⟩
  | .hbm, ⟨83, _⟩ => ⟨S28x18944, .i32⟩
  | .hbm, ⟨84, _⟩ => ⟨S8x28x16x18944, .f32⟩
  | .hbm, ⟨85, _⟩ => ⟨S28x18944, .f32⟩
  | .hbm, ⟨86, _⟩ => ⟨S1x28x1x18944, .f32⟩
  | .hbm, ⟨87, _⟩ => ⟨S8x28x16x18944, .f32⟩
  | .hbm, ⟨88, _⟩ => ⟨S8x28x16x18944, .f32⟩
  | .hbm, ⟨89, _⟩ => ⟨S1x28x1x18944, .f32⟩
  | .hbm, ⟨90, _⟩ => ⟨S8x28x16x18944, .f32⟩
  | .hbm, ⟨91, _⟩ => ⟨S8x28x16x18944, .f32⟩
  | .hbm, ⟨92, _⟩ => ⟨S8x448x18944, .f32⟩
  | .hbm, ⟨93, _⟩ => ⟨S8x448x18944, .bf16⟩
  | .hbm, ⟨94, _⟩ => ⟨S3200x448x8, .bf16⟩
  | .hbm, ⟨95, _⟩ => ⟨S3200x18944, .f32⟩
  | .hbm, ⟨96, _⟩ => ⟨S3200x18944, .f32⟩
  | .hbm, ⟨97, _⟩ => ⟨S3200x18944, .bf16⟩
  | .local _ .vmem, ⟨0, _⟩ => ⟨S28x18944, .i16⟩
  | .local _ .vmem, ⟨1, _⟩ => ⟨S28x18944, .i16⟩
  | .local _ .vmem, ⟨2, _⟩ => ⟨S28x18944, .f32⟩
  | .local _ .vmem, ⟨3, _⟩ => ⟨S28x18944, .f32⟩
  | _, _ => ⟨S3200x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S28x18944 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x18944 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Oproj.lean ====
abbrev S3200x3584 : Shape := ⟨2, ![3200, 3584]⟩
abbrev S3584 : Shape := ⟨1, ![3584]⟩
abbrev S448x3584 : Shape := ⟨2, ![448, 3584]⟩
abbrev S28x448 : Shape := ⟨2, ![28, 448]⟩
abbrev S28x3584 : Shape := ⟨2, ![28, 3584]⟩
abbrev S1x3584 : Shape := ⟨2, ![1, 3584]⟩
abbrev S320x3584 : Shape := ⟨2, ![320, 3584]⟩
abbrev S3584x3584 : Shape := ⟨2, ![3584, 3584]⟩
abbrev S28x128 : Shape := ⟨2, ![28, 128]⟩
abbrev S28x128x1 : Shape := ⟨3, ![28, 128, 1]⟩
abbrev S28x512 : Shape := ⟨2, ![28, 512]⟩
abbrev S16x512 : Shape := ⟨2, ![16, 512]⟩
abbrev S1x512 : Shape := ⟨2, ![1, 512]⟩
abbrev S16x8x512 : Shape := ⟨3, ![16, 8, 512]⟩
abbrev S16x1x512 : Shape := ⟨3, ![16, 1, 512]⟩
abbrev S128x512 : Shape := ⟨2, ![128, 512]⟩
abbrev S3584x512 : Shape := ⟨2, ![3584, 512]⟩
abbrev S320x512 : Shape := ⟨2, ![320, 512]⟩
abbrev S28x64 : Shape := ⟨2, ![28, 64]⟩
abbrev S320 : Shape := ⟨1, ![320]⟩
abbrev S320x1 : Shape := ⟨2, ![320, 1]⟩

abbrev nBuf : Space → Nat
  | .hbm => 9
  | .vmem => 14
  | .smem => 0
  | _ => 0

abbrev bufTy : (tb : Table) → Fin (tcTables nBuf tb) → BufTy
  | .hbm, ⟨0, _⟩ => ⟨S3200x3584, .bf16⟩
  | .hbm, ⟨1, _⟩ => ⟨S3200x3584, .bf16⟩
  | .hbm, ⟨2, _⟩ => ⟨S3584, .f32⟩
  | .hbm, ⟨3, _⟩ => ⟨S448x3584, .i32⟩
  | .hbm, ⟨4, _⟩ => ⟨S28x448, .i32⟩
  | .hbm, ⟨5, _⟩ => ⟨S28x3584, .i16⟩
  | .hbm, ⟨6, _⟩ => ⟨S1x3584, .f32⟩
  | .hbm, ⟨7, _⟩ => ⟨S3200x3584, .bf16⟩
  | .hbm, ⟨8, _⟩ => ⟨S3200x3584, .bf16⟩
  | .local _ .vmem, ⟨0, _⟩ => ⟨S320x3584, .bf16⟩
  | .local _ .vmem, ⟨1, _⟩ => ⟨S320x3584, .bf16⟩
  | .local _ .vmem, ⟨2, _⟩ => ⟨S320x3584, .bf16⟩
  | .local _ .vmem, ⟨3, _⟩ => ⟨S320x3584, .bf16⟩
  | .local _ .vmem, ⟨4, _⟩ => ⟨S1x3584, .f32⟩
  | .local _ .vmem, ⟨5, _⟩ => ⟨S448x3584, .i32⟩
  | .local _ .vmem, ⟨6, _⟩ => ⟨S28x448, .i32⟩
  | .local _ .vmem, ⟨7, _⟩ => ⟨S28x3584, .i16⟩
  | .local _ .vmem, ⟨8, _⟩ => ⟨S320x3584, .bf16⟩
  | .local _ .vmem, ⟨9, _⟩ => ⟨S320x3584, .bf16⟩
  | .local _ .vmem, ⟨10, _⟩ => ⟨S320x3584, .bf16⟩
  | .local _ .vmem, ⟨11, _⟩ => ⟨S320x3584, .bf16⟩
  | .local _ .vmem, ⟨12, _⟩ => ⟨S3584x3584, .bf16⟩
  | .local _ .vmem, ⟨13, _⟩ => ⟨S320x3584, .f32⟩
  | _, _ => ⟨S3200x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S448x3584 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x448 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S28x3584 .i16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OprojReferenceIdeal.lean ====
abbrev S3200x3584 : Shape := ⟨2, ![3200, 3584]⟩
abbrev S3584 : Shape := ⟨1, ![3584]⟩
abbrev S448x3584 : Shape := ⟨2, ![448, 3584]⟩
abbrev S28x448 : Shape := ⟨2, ![28, 448]⟩
abbrev S28x3584 : Shape := ⟨2, ![28, 3584]⟩
abbrev S8 : Shape := ⟨1, ![8]⟩
abbrev S_ : Shape := ⟨0, ![]⟩
abbrev S8x1x1 : Shape := ⟨3, ![8, 1, 1]⟩
abbrev S8x448x3584 : Shape := ⟨3, ![8, 448, 3584]⟩
abbrev S1x448x3584 : Shape := ⟨3, ![1, 448, 3584]⟩
abbrev S8x28x16x3584 : Shape := ⟨4, ![8, 28, 16, 3584]⟩
abbrev S8x28x448 : Shape := ⟨3, ![8, 28, 448]⟩
abbrev S1x28x448 : Shape := ⟨3, ![1, 28, 448]⟩
abbrev S28x448x8 : Shape := ⟨3, ![28, 448, 8]⟩
abbrev S1x28x1x3584 : Shape := ⟨4, ![1, 28, 1, 3584]⟩
abbrev S3200x448x8 : Shape := ⟨3, ![3200, 448, 8]⟩
abbrev S3200 : Shape := ⟨1, ![3200]⟩
abbrev S3200x1 : Shape := ⟨2, ![3200, 1]⟩
abbrev S1x3584 : Shape := ⟨2, ![1, 3584]⟩

abbrev nBuf : Space → Nat
  | .hbm => 67
  | .vmem => 2
  | .smem => 0
  | _ => 0

abbrev bufTy : (tb : Table) → Fin (tcTables nBuf tb) → BufTy
  | .hbm, ⟨0, _⟩ => ⟨S3200x3584, .bf16⟩
  | .hbm, ⟨1, _⟩ => ⟨S3200x3584, .bf16⟩
  | .hbm, ⟨2, _⟩ => ⟨S3584, .f32⟩
  | .hbm, ⟨3, _⟩ => ⟨S448x3584, .i32⟩
  | .hbm, ⟨4, _⟩ => ⟨S28x448, .i32⟩
  | .hbm, ⟨5, _⟩ => ⟨S28x3584, .i16⟩
  | .hbm, ⟨6, _⟩ => ⟨S28x3584, .f32⟩
  | .hbm, ⟨7, _⟩ => ⟨S3200x3584, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8x1x1, .i32⟩
  | .hbm, ⟨13, _⟩ => ⟨S8x448x3584, .i32⟩
  | .hbm, ⟨14, _⟩ => ⟨S1x448x3584, .i32⟩
  | .hbm, ⟨15, _⟩ => ⟨S8x448x3584, .i32⟩
  | .hbm, ⟨16, _⟩ => ⟨S8x448x3584, .i32⟩
  | .hbm, ⟨17, _⟩ => ⟨S_, .i32⟩
  | .hbm, ⟨18, _⟩ => ⟨S8x448x3584, .i32⟩
  | .hbm, ⟨19, _⟩ => ⟨S8x448x3584, .i32⟩
  | .hbm, ⟨20, _⟩ => ⟨S8x28x16x3584, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8x1x1, .i32⟩
  | .hbm, ⟨26, _⟩ => ⟨S8x28x448, .i32⟩
  | .hbm, ⟨27, _⟩ => ⟨S1x28x448, .i32⟩
  | .hbm, ⟨28, _⟩ => ⟨S8x28x448, .i32⟩
  | .hbm, ⟨29, _⟩ => ⟨S8x28x448, .i32⟩
  | .hbm, ⟨30, _⟩ => ⟨S_, .i32⟩
  | .hbm, ⟨31, _⟩ => ⟨S8x28x448, .i32⟩
  | .hbm, ⟨32, _⟩ => ⟨S8x28x448, .i32⟩
  | .hbm, ⟨33, _⟩ => ⟨S28x448x8, .i32⟩
  | .hbm, ⟨34, _⟩ => ⟨S28x3584, .i32⟩
  | .hbm, ⟨35, _⟩ => ⟨S8x28x16x3584, .f32⟩
  | .hbm, ⟨36, _⟩ => ⟨S28x3584, .f32⟩
  | .hbm, ⟨37, _⟩ => ⟨S1x28x1x3584, .f32⟩
  | .hbm, ⟨38, _⟩ => ⟨S8x28x16x3584, .f32⟩
  | .hbm, ⟨39, _⟩ => ⟨S8x28x16x3584, .f32⟩
  | .hbm, ⟨40, _⟩ => ⟨S1x28x1x3584, .f32⟩
  | .hbm, ⟨41, _⟩ => ⟨S8x28x16x3584, .f32⟩
  | .hbm, ⟨42, _⟩ => ⟨S8x28x16x3584, .f32⟩
  | .hbm, ⟨43, _⟩ => ⟨S8x448x3584, .f32⟩
  | .hbm, ⟨44, _⟩ => ⟨S8x448x3584, .bf16⟩
  | .hbm, ⟨45, _⟩ => ⟨S3200x448x8, .bf16⟩
  | .hbm, ⟨46, _⟩ => ⟨S3200x3584, .f32⟩
  | .hbm, ⟨47, _⟩ => ⟨S3200x3584, .f32⟩
  | .hbm, ⟨48, _⟩ => ⟨S3200x3584, .bf16⟩
  | .hbm, ⟨49, _⟩ => ⟨S3200x3584, .f32⟩
  | .hbm, ⟨50, _⟩ => ⟨S3200x3584, .f32⟩
  | .hbm, ⟨51, _⟩ => ⟨S_, .f32⟩
  | .hbm, ⟨52, _⟩ => ⟨S3200, .f32⟩
  | .hbm, ⟨53, _⟩ => ⟨S3200x1, .f32⟩
  | .hbm, ⟨54, _⟩ => ⟨S_, .f32⟩
  | .hbm, ⟨55, _⟩ => ⟨S3200x1, .f32⟩
  | .hbm, ⟨56, _⟩ => ⟨S3200x1, .f32⟩
  | .hbm, ⟨57, _⟩ => ⟨S_, .f32⟩
  | .hbm, ⟨58, _⟩ => ⟨S3200x1, .f32⟩
  | .hbm, ⟨59, _⟩ => ⟨S3200x1, .f32⟩
  | .hbm, ⟨60, _⟩ => ⟨S3200x1, .f32⟩
  | .hbm, ⟨61, _⟩ => ⟨S3200x3584, .f32⟩
  | .hbm, ⟨62, _⟩ => ⟨S3200x3584, .f32⟩
  | .hbm, ⟨63, _⟩ => ⟨S1x3584, .f32⟩
  | .hbm, ⟨64, _⟩ => ⟨S3200x3584, .f32⟩
  | .hbm, ⟨65, _⟩ => ⟨S3200x3584, .f32⟩
  | .hbm, ⟨66, _⟩ => ⟨S3200x3584, .bf16⟩
  | .local _ .vmem, ⟨0, _⟩ => ⟨S28x3584, .i16⟩
  | .local _ .vmem, ⟨1, _⟩ => ⟨S28x3584, .f32⟩
  | _, _ => ⟨S3200x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S28x3584 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KBits.Run.lean ====
/-
  The gate/up kernel's body, run once at a symbolic grid point: from the seven input staging buffers at any contents,
  the output's buffer and the two weight scratch buffers at anything, it ends with the inputs unchanged and the three
  written buffers at the pieces their stores wrote (`kernelRun0_A`). The pieces are found by the symbolic executor.
-/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 7, through which its contents are stated (`View.read_writes_of_cover`: the
    choice does not matter). -/
abbrev VO0_7 : View sig .tc .vmem S3200x256 .bf16 := (Memref.whole cc0_stg7_0 : Memref sig .tc .vmem S3200x256 .bf16).view
/-- Each window's current staging memref at point `t`, spelled as the pipeline passes it (`bodyAt0`), and its wholeness. -/
abbrev ms0_0 (t : Fin cfg0.N) : Memref sig .tc .vmem S3200x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S448x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S28x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x256 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S448x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x256 .i16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3200x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x256 .bf16 := Memref.whole cc0_scratch0
abbrev scM0_1 : Memref sig .tc .vmem S3584x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1280000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S3200x3584 .bf16) (harg1 : arg1.IsWhole) (arg2 : Memref sig .tc .vmem S448x256 .i32) (harg2 : arg2.IsWhole) (arg3 : Memref sig .tc .vmem S28x128 .i32) (harg3 : arg3.IsWhole) (arg4 : Memref sig .tc .vmem S28x256 .i16) (harg4 : arg4.IsWhole) (arg5 : Memref sig .tc .vmem S448x256 .i32) (harg5 : arg5.IsWhole) (arg6 : Memref sig .tc .vmem S28x128 .i32) (harg6 : arg6.IsWhole) (arg7 : Memref sig .tc .vmem S28x256 .i16) (harg7 : arg7.IsWhole) (arg8 : Memref sig .tc .vmem S3200x256 .bf16) (harg8 : arg8.IsWhole) (arg9 : Memref sig .tc .vmem S3584x256 .bf16) (harg9 : arg9.IsWhole) (arg10 : Memref sig .tc .vmem S3584x256 .bf16) (harg10 : arg10.IsWhole)
    (x0 : Vec F S3200x3584 .bf16) (x1 : Vec F S448x256 .i32) (x2 : Vec F S28x128 .i32) (x3 : Vec F S28x256 .i16) (x4 : Vec F S448x256 .i32) (x5 : Vec F S28x128 .i32) (x6 : Vec F S28x256 .i16) :
    Σ' (L7 : List (View.Piece (Elt F) S3200x256 .bf16)), Σ' (LT0 : List (View.Piece (Elt F) S3584x256 .bf16)), { LT1 : List (View.Piece (Elt F) S3584x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_gateup_eq_skeleton]; unfold cc0_gateup_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.KBits.Frame.lean ====
/-
  The frame of the gate/up kernel: the proof data with the output's contents left unnamed, the body obligation at every
  grid point, the run of the whole program, and the arguments and semaphore counters at its end. The last block of the
  packed zero points overhangs its array, so those two windows are stated on the words inside the array only.
-/
module

public import proofs.«01_k».proof.Proof.KBits.Run
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- Window 2's block at point `t`, filled out with zero words past the array's end. -/
def zfill2 (c : Dev nD) (t : Fin cfg0.N) : Vec F S28x128 .i32 :=
  win0_2.fill (grid0.coords t) (fun _ => (0#32 : BitVec 32)) (iblk m c 2 t)

/-- The cut of window 2's block is a function of the block's index. -/
theorem clip_of_index2 (t t' : Fin cfg0.N) (h : (cfg0.win 2).index t = (cfg0.win 2).index t') :
    (cfg0.win 2).clip (cfg0.grid.coords t) = (cfg0.win 2).clip (cfg0.grid.coords t') := by
  have h' : win0_2.index t = win0_2.index t' := h
  funext a
  exact congrArg (fun ix : Fin 2 → Nat => Pipeline.Clip.of (ix a) (S28x128.size a) (S28x2368.size a)) h'

/-- Window 5's block at point `t`, filled out with zero words past the array's end. -/
def zfill5 (c : Dev nD) (t : Fin cfg0.N) : Vec F S28x128 .i32 :=
  win0_5.fill (grid0.coords t) (fun _ => (0#32 : BitVec 32)) (iblk m c 5 t)

/-- The cut of window 5's block is a function of the block's index. -/
theorem clip_of_index5 (t t' : Fin cfg0.N) (h : (cfg0.win 5).index t = (cfg0.win 5).index t') :
    (cfg0.win 5).clip (cfg0.grid.coords t) = (cfg0.win 5).clip (cfg0.grid.coords t') := by
  have h' : win0_5.index t = win0_5.index t' := h
  funext a
  exact congrArg (fun ix : Fin 2 → Nat => Pipeline.Clip.of (ix a) (S28x128.size a) (S28x2368.size a)) h'

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zfill2 m c t
    | ⟨3, _⟩ => iblk m c 3 t
    | ⟨4, _⟩ => iblk m c 4 t
    | ⟨5, _⟩ => zfill5 m c t
    | ⟨6, _⟩ => iblk m c 6 t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = zfill2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zfill5 m c t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) :=
  ((dats m 0 c).before_in_eq_fetched 2 rfl (fun _ => rfl) (clip_of_index2)
    (fun t => by rw [after0_2]; exact (win0_2.cut_fill _ _ _).trans (by unfold Dat.blockOf iblk; rw [A_eq])) t d).trans
    (by unfold Dat.fetched Dat.blockOf iblk; rw [A_eq])
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = win0_5.fill (grid0.coords t) d (iblk m c 5 t) :=
  ((dats m 0 c).before_in_eq_fetched 5 rfl (fun _ => rfl) (clip_of_index5)
    (fun t => by rw [after0_5]; exact (win0_5.cut_fill _ _ _).trans (by unfold Dat.blockOf iblk; rw [A_eq])) t d).trans
    (by unfold Dat.fetched Dat.blockOf iblk; rw [A_eq])
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (F := F) c (grid0.coords t) _ _ _ _ _ _ _ _ _ _ _ _ _ _ _ _ _ _ _ _ (iblk m c 0 t) (iblk m c 1 t) (win0_2.fill (grid0.coords t) d2 (iblk m c 2 t)) (iblk m c 3 t) (iblk m c 4 t) (win0_5.fill (grid0.coords t) d5 (iblk m c 5 t)) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexists d2; rw [show win0_2.cut (grid0.coords t) (zfill2 m c t) = iblk m c 2 t from win0_2.cut_fill _ _ _]; iexact H2
  isplitl [H3]; · iexact H3
  isplitl [H4]; · iexact H4
  isplitl [H5]; · iexists d5; rw [show win0_5.cut (grid0.coords t) (zfill5 m c t) = iblk m c 5 t from win0_5.cut_fill _ _ _]; iexact H5
  isplitl [H6]; · iexact H6
  iexists _; unfold owns; iexists _; isplitr
  swap; · iexact H7
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.KIdeal.Run.lean ====
/-
  The gate/up kernel's body, run once at a symbolic grid point: from the seven input staging buffers at any contents,
  the output's buffer and the two weight scratch buffers at anything, it ends with the inputs unchanged and the three
  written buffers at the pieces their stores wrote (`kernelRun0_A`). The pieces are found by the symbolic executor.
-/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 7, through which its contents are stated (`View.read_writes_of_cover`: the
    choice does not matter). -/
abbrev VO0_7 : View sig .tc .vmem S3200x256 .bf16 := (Memref.whole cc0_stg7_0 : Memref sig .tc .vmem S3200x256 .bf16).view
/-- Each window's current staging memref at point `t`, spelled as the pipeline passes it (`bodyAt0`), and its wholeness. -/
abbrev ms0_0 (t : Fin cfg0.N) : Memref sig .tc .vmem S3200x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S448x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S28x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x256 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S448x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x256 .i16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3200x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x256 .bf16 := Memref.whole cc0_scratch0
abbrev scM0_1 : Memref sig .tc .vmem S3584x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1280000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S3200x3584 .bf16) (harg1 : arg1.IsWhole) (arg2 : Memref sig .tc .vmem S448x256 .i32) (harg2 : arg2.IsWhole) (arg3 : Memref sig .tc .vmem S28x128 .i32) (harg3 : arg3.IsWhole) (arg4 : Memref sig .tc .vmem S28x256 .i16) (harg4 : arg4.IsWhole) (arg5 : Memref sig .tc .vmem S448x256 .i32) (harg5 : arg5.IsWhole) (arg6 : Memref sig .tc .vmem S28x128 .i32) (harg6 : arg6.IsWhole) (arg7 : Memref sig .tc .vmem S28x256 .i16) (harg7 : arg7.IsWhole) (arg8 : Memref sig .tc .vmem S3200x256 .bf16) (harg8 : arg8.IsWhole) (arg9 : Memref sig .tc .vmem S3584x256 .bf16) (harg9 : arg9.IsWhole) (arg10 : Memref sig .tc .vmem S3584x256 .bf16) (harg10 : arg10.IsWhole)
    (x0 : Vec F S3200x3584 .bf16) (x1 : Vec F S448x256 .i32) (x2 : Vec F S28x128 .i32) (x3 : Vec F S28x256 .i16) (x4 : Vec F S448x256 .i32) (x5 : Vec F S28x128 .i32) (x6 : Vec F S28x256 .i16) :
    Σ' (L7 : List (View.Piece (Elt F) S3200x256 .bf16)), Σ' (LT0 : List (View.Piece (Elt F) S3584x256 .bf16)), { LT1 : List (View.Piece (Elt F) S3584x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_gateup_eq_skeleton]; unfold cc0_gateup_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.KIdeal.Frame.lean ====
/-
  The frame of the gate/up kernel: the proof data with the output's contents left unnamed, the body obligation at every
  grid point, the run of the whole program, and the arguments and semaphore counters at its end. The last block of the
  packed zero points overhangs its array, so those two windows are stated on the words inside the array only.
-/
module

public import proofs.«01_k».proof.Proof.KIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- Window 2's block at point `t`, filled out with zero words past the array's end. -/
def zfill2 (c : Dev nD) (t : Fin cfg0.N) : Vec F S28x128 .i32 :=
  win0_2.fill (grid0.coords t) (fun _ => (0#32 : BitVec 32)) (iblk m c 2 t)

/-- The cut of window 2's block is a function of the block's index. -/
theorem clip_of_index2 (t t' : Fin cfg0.N) (h : (cfg0.win 2).index t = (cfg0.win 2).index t') :
    (cfg0.win 2).clip (cfg0.grid.coords t) = (cfg0.win 2).clip (cfg0.grid.coords t') := by
  have h' : win0_2.index t = win0_2.index t' := h
  funext a
  exact congrArg (fun ix : Fin 2 → Nat => Pipeline.Clip.of (ix a) (S28x128.size a) (S28x2368.size a)) h'

/-- Window 5's block at point `t`, filled out with zero words past the array's end. -/
def zfill5 (c : Dev nD) (t : Fin cfg0.N) : Vec F S28x128 .i32 :=
  win0_5.fill (grid0.coords t) (fun _ => (0#32 : BitVec 32)) (iblk m c 5 t)

/-- The cut of window 5's block is a function of the block's index. -/
theorem clip_of_index5 (t t' : Fin cfg0.N) (h : (cfg0.win 5).index t = (cfg0.win 5).index t') :
    (cfg0.win 5).clip (cfg0.grid.coords t) = (cfg0.win 5).clip (cfg0.grid.coords t') := by
  have h' : win0_5.index t = win0_5.index t' := h
  funext a
  exact congrArg (fun ix : Fin 2 → Nat => Pipeline.Clip.of (ix a) (S28x128.size a) (S28x2368.size a)) h'

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zfill2 m c t
    | ⟨3, _⟩ => iblk m c 3 t
    | ⟨4, _⟩ => iblk m c 4 t
    | ⟨5, _⟩ => zfill5 m c t
    | ⟨6, _⟩ => iblk m c 6 t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = zfill2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zfill5 m c t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) :=
  ((dats m 0 c).before_in_eq_fetched 2 rfl (fun _ => rfl) (clip_of_index2)
    (fun t => by rw [after0_2]; exact (win0_2.cut_fill _ _ _).trans (by unfold Dat.blockOf iblk; rw [A_eq])) t d).trans
    (by unfold Dat.fetched Dat.blockOf iblk; rw [A_eq])
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = win0_5.fill (grid0.coords t) d (iblk m c 5 t) :=
  ((dats m 0 c).before_in_eq_fetched 5 rfl (fun _ => rfl) (clip_of_index5)
    (fun t => by rw [after0_5]; exact (win0_5.cut_fill _ _ _).trans (by unfold Dat.blockOf iblk; rw [A_eq])) t d).trans
    (by unfold Dat.fetched Dat.blockOf iblk; rw [A_eq])
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (F := F) c (grid0.coords t) _ _ _ _ _ _ _ _ _ _ _ _ _ _ _ _ _ _ _ _ (iblk m c 0 t) (iblk m c 1 t) (win0_2.fill (grid0.coords t) d2 (iblk m c 2 t)) (iblk m c 3 t) (iblk m c 4 t) (win0_5.fill (grid0.coords t) d5 (iblk m c 5 t)) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexists d2; rw [show win0_2.cut (grid0.coords t) (zfill2 m c t) = iblk m c 2 t from win0_2.cut_fill _ _ _]; iexact H2
  isplitl [H3]; · iexact H3
  isplitl [H4]; · iexact H4
  isplitl [H5]; · iexists d5; rw [show win0_5.cut (grid0.coords t) (zfill5 m c t) = iblk m c 5 t from win0_5.cut_fill _ _ _]; iexact H5
  isplitl [H6]; · iexact H6
  iexists _; unfold owns; iexists _; isplitr
  swap; · iexact H7
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.KIdeal.Pieces.lean ====
/-
  What the kernel's stores leave, in one form for every group of 128 input rows: the 28 stores into each weight scratch
  are one function of the group's number, and the four stores into the output are one function of the row block's.
-/
module

public import proofs.«01_k».proof.Proof.KIdeal.Run
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The dequantised weights of one group: its sixteen rows of packed words spread over 128 rows, eight to a word, minus the
    group's zero points, times the group's scales. -/
def groupW (Z S : FVec F S28x256 .f32) (off : Fin 2 → Nat) (h : S28x256.Slices off S1x256) (q : Vec F S16x256 .i32) : FVec F S128x256 .bf16 :=
  shapeCast S128x256 (truncf .bf16 (mulf (extf .f32 (subf (sitofp .bf16 (shapeCast S128x256 (andi (shrui
      (broadcastTo S16x8x256 (shapeCast S16x1x256 (shapeCast S16x1x256 q shapeCasts_S16x256_S16x1x256) shapeCasts_S16x1x256_S16x1x256) broadcasts_S16x1x256_S16x8x256)
      (muli (iota .tc S16x8x256 32 [1] iota_S16x8x256_d1_w32) (broadcast S16x8x256 4#32))) (broadcast S16x8x256 15#32)) shapeCasts_S16x8x256_S128x256))
      (broadcastTo S128x256 (truncf .bf16 (extractStridedSlice S1x256 off Z h) bitsLt_bf16_f32) broadcasts_S1x256_S128x256)) bitsLt_bf16_f32)
    (broadcastTo S128x256 (extractStridedSlice S1x256 off S h) broadcasts_S1x256_S128x256)) bitsLt_bf16_f32) shapeCasts_S128x256_S128x256

/-- The zero points of the 256 columns of point `i`, spread from their packed words. -/
def zerosOf (i : grid0.Coords) (z : Vec F S28x128 .i32) : FVec F S28x256 .f32 := k0_pay5 (k0_pay2 i z) (k0_pay3 i z) k0_pay4

theorem inbQ {n : Nat} (h : n < 28) : ∀ a, (![16 * n, 0] : Fin 2 → Nat) a + S16x256.size a ≤ S448x256.size a := by
  intro a; fin_cases a
  · show 16 * n + 16 ≤ 448; omega
  · show 0 + 256 ≤ 256; omega

theorem inbW {n : Nat} (h : n < 28) : ∀ a, (![128 * n, 0] : Fin 2 → Nat) a + S128x256.size a ≤ S3584x256.size a := by
  intro a; fin_cases a
  · show 128 * n + 128 ≤ 3584; omega
  · show 0 + 256 ≤ 256; omega

theorem slicesG {n : Nat} (h : n < 28) : S28x256.Slices ![n, 0] S1x256 := by
  refine ⟨rfl, fun a => ?_⟩; fin_cases a
  · show n + 1 ≤ 28; omega
  · show 0 + 256 ≤ 256; omega

theorem inbA {n : Nat} (h : n < 4) : ∀ a, (![800 * n, 0] : Fin 2 → Nat) a + S800x3584.size a ≤ S3200x3584.size a := by
  intro a; fin_cases a
  · show 800 * n + 800 ≤ 3200; omega
  · show 0 + 3584 ≤ 3584; omega

theorem inbO {n : Nat} (h : n < 4) : ∀ a, (![800 * n, 0] : Fin 2 → Nat) a + S800x256.size a ≤ S3200x256.size a := by
  intro a; fin_cases a
  · show 800 * n + 800 ≤ 3200; omega
  · show 0 + 256 ≤ 256; omega

/-- The store of group `n`'s weights, the words read from `q`. -/
def weightPiece (Z S : FVec F S28x256 .f32) (q : ∀ n, n < 28 → Vec F S16x256 .i32) (n : Nat) (h : n < 28) : View.Piece (Elt F) S3584x256 .bf16 :=
  ⟨Rect.unit ![128 * n, 0] S128x256.size (inbW h), groupW Z S ![n, 0] (slicesG h) (q n h)⟩

/-- The stores of the first `n` groups, last first. -/
def weightPieces (Z S : FVec F S28x256 .f32) (q : ∀ n, n < 28 → Vec F S16x256 .i32) : (n : Nat) → n ≤ 28 → List (View.Piece (Elt F) S3584x256 .bf16)
  | 0, _ => []
  | n + 1, h => weightPiece Z S q n h :: weightPieces Z S q n (Nat.le_of_succ_le h)

/-- The store of row block `n` of the output. -/
def outPiece (a : ∀ n, n < 4 → Vec F S800x3584 .bf16) (wg wu : Vec F S3584x256 .bf16) (n : Nat) (h : n < 4) : View.Piece (Elt F) S3200x256 .bf16 :=
  ⟨Rect.unit ![800 * n, 0] S800x256.size (inbO h), k0_pay1 (a n h) wg wu⟩

/-- The stores of the first `n` row blocks, last first. -/
def outPieces (a : ∀ n, n < 4 → Vec F S800x3584 .bf16) (wg wu : Vec F S3584x256 .bf16) : (n : Nat) → n ≤ 4 → List (View.Piece (Elt F) S3200x256 .bf16)
  | 0, _ => []
  | n + 1, h => outPiece a wg wu n h :: outPieces a wg wu n (Nat.le_of_succ_le h)

theorem mem_weightPieces (Z S : FVec F S28x256 .f32) (q : ∀ n, n < 28 → Vec F S16x256 .i32) (p) : ∀ (n : Nat) (h : n ≤ 28),
    p ∈ weightPieces Z S q n h ↔ ∃ g, ∃ hg : g < n, p = weightPiece Z S q g (Nat.lt_of_lt_of_le hg h)
  | 0, _ => by simp [weightPieces]
  | n + 1, h => by
    rw [weightPieces, List.mem_cons, mem_weightPieces Z S q p n]
    constructor
    · rintro (rfl | ⟨g, hg, rfl⟩)
      · exact ⟨n, Nat.lt_succ_self n, rfl⟩
      · exact ⟨g, Nat.lt_succ_of_lt hg, rfl⟩
    · rintro ⟨g, hg, rfl⟩
      rcases Nat.lt_succ_iff_lt_or_eq.mp hg with h' | rfl
      · exact Or.inr ⟨g, h', rfl⟩
      · exact Or.inl rfl

theorem mem_outPieces (a : ∀ n, n < 4 → Vec F S800x3584 .bf16) (wg wu : Vec F S3584x256 .bf16) (p) : ∀ (n : Nat) (h : n ≤ 4),
    p ∈ outPieces a wg wu n h ↔ ∃ g, ∃ hg : g < n, p = outPiece a wg wu g (Nat.lt_of_lt_of_le hg h)
  | 0, _ => by simp [outPieces]
  | n + 1, h => by
    rw [outPieces, List.mem_cons, mem_outPieces a wg wu p n]
    constructor
    · rintro (rfl | ⟨g, hg, rfl⟩)
      · exact ⟨n, Nat.lt_succ_self n, rfl⟩
      · exact ⟨g, Nat.lt_succ_of_lt hg, rfl⟩
    · rintro ⟨g, hg, rfl⟩
      rcases Nat.lt_succ_iff_lt_or_eq.mp hg with h' | rfl
      · exact Or.inr ⟨g, h', rfl⟩
      · exact Or.inl rfl

variable (c : Dev nD) (i : grid0.Coords)

/-- The gate weights' stores are the 28 groups'. -/
theorem HS0_eq (arg2 : Memref sig .tc .vmem S448x256 .i32) (harg2 : arg2.IsWhole) (arg3 : Memref sig .tc .vmem S28x128 .i32) (harg3 : arg3.IsWhole)
    (arg4 : Memref sig .tc .vmem S28x256 .i16) (harg4 : arg4.IsWhole) (x1 : Vec F S448x256 .i32) (x2 : Vec F S28x128 .i32) (x3 : Vec F S28x256 .i16) :
    kernelRun0_A.sl.HS0_28 (F := F) c i arg2 harg2 arg3 harg3 arg4 harg4 x1 x2 x3
      = weightPieces (zerosOf i (View.readAt (Elt F) arg3.view (Rect.unit (s := S28x128) ![0, 0] S28x128.size inb_S28x128_S28x128_0_0).toLoadRect (harg3.unread x2)))
          (k0_pay6 (View.readAt (Elt F) arg4.view (Rect.unit (s := S28x256) ![0, 0] S28x256.size inb_S28x256_S28x256_0_0).toLoadRect (harg4.unread x3)))
          (fun n h => View.readAt (Elt F) arg2.view (Rect.unit (s := S448x256) ![16 * n, 0] S16x256.size (inbQ h)).toLoadRect (harg2.unread x1)) 28 le_rfl := by
  rfl

/-- The up weights' stores are the 28 groups'. -/
theorem HS1_eq (arg5 : Memref sig .tc .vmem S448x256 .i32) (harg5 : arg5.IsWhole) (arg6 : Memref sig .tc .vmem S28x128 .i32) (harg6 : arg6.IsWhole)
    (arg7 : Memref sig .tc .vmem S28x256 .i16) (harg7 : arg7.IsWhole) (x4 : Vec F S448x256 .i32) (x5 : Vec F S28x128 .i32) (x6 : Vec F S28x256 .i16) :
    kernelRun0_A.sl.HS1_28 (F := F) c i arg5 harg5 arg6 harg6 arg7 harg7 x4 x5 x6
      = weightPieces (zerosOf i (View.readAt (Elt F) arg6.view (Rect.unit (s := S28x128) ![0, 0] S28x128.size inb_S28x128_S28x128_0_0).toLoadRect (harg6.unread x5)))
          (k0_pay6 (View.readAt (Elt F) arg7.view (Rect.unit (s := S28x256) ![0, 0] S28x256.size inb_S28x256_S28x256_0_0).toLoadRect (harg7.unread x6)))
          (fun n h => View.readAt (Elt F) arg5.view (Rect.unit (s := S448x256) ![16 * n, 0] S16x256.size (inbQ h)).toLoadRect (harg5.unread x4)) 28 le_rfl := by
  rfl

/-- The output's stores are the four row blocks'. -/
theorem L7_eq (arg1 : Memref sig .tc .vmem S3200x3584 .bf16) (harg1 : arg1.IsWhole) (arg2 : Memref sig .tc .vmem S448x256 .i32) (harg2 : arg2.IsWhole) (arg3 : Memref sig .tc .vmem S28x128 .i32) (harg3 : arg3.IsWhole) (arg4 : Memref sig .tc .vmem S28x256 .i16) (harg4 : arg4.IsWhole) (arg5 : Memref sig .tc .vmem S448x256 .i32) (harg5 : arg5.IsWhole) (arg6 : Memref sig .tc .vmem S28x128 .i32) (harg6 : arg6.IsWhole) (arg7 : Memref sig .tc .vmem S28x256 .i16) (harg7 : arg7.IsWhole) (arg8 : Memref sig .tc .vmem S3200x256 .bf16) (harg8 : arg8.IsWhole) (arg9 : Memref sig .tc .vmem S3584x256 .bf16) (harg9 : arg9.IsWhole) (arg10 : Memref sig .tc .vmem S3584x256 .bf16) (harg10 : arg10.IsWhole)
    (x0 : Vec F S3200x3584 .bf16) (x1 : Vec F S448x256 .i32) (x2 : Vec F S28x128 .i32) (x3 : Vec F S28x256 .i16) (x4 : Vec F S448x256 .i32) (x5 : Vec F S28x128 .i32) (x6 : Vec F S28x256 .i16) :
    (kernelRun0_A (F := F) c i arg1 harg1 arg2 harg2 arg3 harg3 arg4 harg4 arg5 harg5 arg6 harg6 arg7 harg7 arg8 harg8 arg9 harg9 arg10 harg10 x0 x1 x2 x3 x4 x5 x6).1
      = outPieces (fun n h => View.readAt (Elt F) arg1.view (Rect.unit (s := S3200x3584) ![800 * n, 0] S800x3584.size (inbA h)).toLoadRect (harg1.unread x0))
          (arg9.view.readCov (kernelRun0_A.sl.HS0_28 c i arg2 harg2 arg3 harg3 arg4 harg4 x1 x2 x3) (Rect.unit (s := S3584x256) ![0, 0] S3584x256.size inb_S3584x256_S3584x256_0_0).toLoadRect)
          (arg10.view.readCov (kernelRun0_A.sl.HS1_28 c i arg5 harg5 arg6 harg6 arg7 harg7 x4 x5 x6) (Rect.unit (s := S3584x256) ![0, 0] S3584x256.size inb_S3584x256_S3584x256_0_0).toLoadRect) 4 le_rfl := by
  rfl

end Cert.KernelIdeal.Hand

end
-- ==== Proof.KIdeal.Weights.lean ====
/-
  The kernel's dequantised weights at an index: four bits of a packed word, minus four bits of a packed zero-point word,
  times a scale, and the value of the block of the output over them.
-/
module

public import proofs.«01_k».proof.Proof.KIdeal.Pieces
public import Idealize.ShloMosaic.Lib.Pipeline.ValueKit
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The `k`-th four bits of a word. -/
def nib (w : BitVec 32) (k : Nat) : BitVec 32 := (w >>> (BitVec.ofNat 32 (4 * k))) &&& 15#32

/-- A shift right by `4 k` bits and the low four bits kept, at any unit: no shift is of 32 or more. -/
theorem nib_of (u : ArithUnit) (w y : BitVec 32) (k : Nat) (hk : k < 8) (hy : y = BitVec.ofNat 32 (4 * k)) :
    IntOp.andi (IntOp.shrui u w y) 15#32 = nib w k := by
  subst hy
  have : (BitVec.ofNat 32 (4 * k)).toNat < 32 := by
    rw [BitVec.toNat_ofNat]; omega
  rw [IntOp.shrui, if_pos this]; rfl

/-- The packed words of one group, spread over its 128 rows. -/
def spread (q : Vec F S16x256 .i32) : IVec S128x256 32 :=
  shapeCast S128x256 (andi (shrui
      (broadcastTo S16x8x256 (shapeCast S16x1x256 (shapeCast S16x1x256 q shapeCasts_S16x256_S16x1x256) shapeCasts_S16x1x256_S16x1x256) broadcasts_S16x1x256_S16x8x256)
      (muli (iota .tc S16x8x256 32 [1] iota_S16x8x256_d1_w32) (broadcast S16x8x256 4#32))) (broadcast S16x8x256 15#32)) shapeCasts_S16x8x256_S128x256

theorem spread_apply (q : Vec F S16x256 .i32) (j : S128x256.Idx) (kq : S16x256.Idx) (hq0 : (kq 0).val = (j 0).val / 8) (hq1 : (kq 1).val = (j 1).val) :
    spread (F := F) q j = nib (q kq) ((j 0).val % 8) := by
  have hj0 : (j 0).val < 128 := (j 0).isLt
  have hj1 : (j 1).val < 256 := (j 1).isLt
  let k3 : S16x8x256.Idx := fun a => match a with | ⟨0, _⟩ => ⟨(j 0).val / 8, by show _ < 16; omega⟩ | ⟨1, _⟩ => ⟨(j 0).val % 8, by show _ < 8; omega⟩ | ⟨2, _⟩ => ⟨(j 1).val, hj1⟩
  let k1 : S16x1x256.Idx := fun a => match a with | ⟨0, _⟩ => ⟨(j 0).val / 8, by show _ < 16; omega⟩ | ⟨1, _⟩ => ⟨0, Nat.one_pos⟩ | ⟨2, _⟩ => ⟨(j 1).val, hj1⟩
  unfold spread
  rw [shapeCast_apply _ shapeCasts_S16x8x256_S128x256 j k3
    (by rw [Shape.rowMajor_val_two, Shape.rowMajor_val_three]
        show ((j 0).val / 8 * 8 + (j 0).val % 8) * 256 + (j 1).val = (j 0).val * 256 + (j 1).val
        omega)]
  refine (nib_of .vector _ _ ((j 0).val % 8) (by omega) ?_).trans ?_
  · show BitVec.ofNat 32 (0 * 8 + (j 0).val % 8) * BitVec.ofNat 32 4 = _
    rw [← BitVec.ofNat_mul]
    congr 1; omega
  · rw [broadcastTo_apply _ broadcasts_S16x1x256_S16x8x256 k3 k1
      (fun a => match a with | ⟨0, _⟩ => rfl | ⟨1, _⟩ => rfl | ⟨2, _⟩ => rfl),
      shapeCast_apply _ shapeCasts_S16x1x256_S16x1x256 k1 k1 rfl,
      shapeCast_apply _ shapeCasts_S16x256_S16x1x256 k1 kq (by
        rw [Shape.rowMajor_val_two, Shape.rowMajor_val_three]
        show (kq 0).val * 256 + (kq 1).val = ((j 0).val / 8 * 1 + 0) * 256 + (j 1).val
        omega)]

theorem row_apply {φ : FTy} (X : FVec F S28x256 φ) (g : Nat) (h : S28x256.Slices ![g, 0] S1x256) (j : S128x256.Idx)
    (kz : S28x256.Idx) (hz0 : (kz 0).val = g) (hz1 : (kz 1).val = (j 1).val) :
    broadcastTo S128x256 (extractStridedSlice S1x256 ![g, 0] X h) broadcasts_S1x256_S128x256 j = X kz := by
  have hj1 : (j 1).val < 256 := (j 1).isLt
  let k : S1x256.Idx := fun a => match a with | ⟨0, _⟩ => ⟨0, Nat.one_pos⟩ | ⟨1, _⟩ => ⟨(j 1).val, hj1⟩
  rw [broadcastTo_apply _ broadcasts_S1x256_S128x256 j k (fun a => match a with | ⟨0, _⟩ => rfl | ⟨1, _⟩ => rfl)]
  exact extractStridedSlice_apply _ _ _ _ kz (fun a => match a with
      | ⟨0, _⟩ => by show (kz 0).val = g + 0; omega
      | ⟨1, _⟩ => by show (kz 1).val = 0 + (j 1).val; omega)

/-- One group's weights at an index. -/
theorem groupW_apply (Z S : FVec Ideal S28x256 .f32) (g : Nat) (h : S28x256.Slices ![g, 0] S1x256) (q : Vec Ideal S16x256 .i32) (j : S128x256.Idx)
    (kq : S16x256.Idx) (hq0 : (kq 0).val = (j 0).val / 8) (hq1 : (kq 1).val = (j 1).val)
    (kz : S28x256.Idx) (hz0 : (kz 0).val = g) (hz1 : (kz 1).val = (j 1).val) :
    groupW (F := Ideal) Z S ![g, 0] h q j
      = ((((nib (q kq) ((j 0).val % 8)).toInt : ℝ) : EReal) - Z kz) * S kz := by
  have hw := spread_apply (F := Ideal) q j kq hq0 hq1
  have hz := row_apply (F := Ideal) Z g h j kz hz0 hz1
  have hs := row_apply (F := Ideal) S g h j kz hz0 hz1
  rw [← hw, ← hz, ← hs]
  unfold groupW
  rw [shapeCast_apply _ shapeCasts_S128x256_S128x256 j j rfl]
  rfl

/-- The lane of the word that holds the zero point of lane `l` of column half `c`, as the kernel computes it. -/
def gatherLane (i c l : Nat) : BitVec 32 :=
  let x : BitVec 32 := IntOp.addi (IntOp.shrsi .vector (BitVec.ofNat 32 l) 3#32)
    (Scalar.addi (Scalar.muli (Scalar.remsi (BitVec.ofNat 32 i) 4#32) 32#32) (BitVec.ofNat 32 (16 * c)))
  if IntOp.cmpi .slt x 0#32 = 1 then IntOp.addi x 128#32 else x

theorem gatherLane_eq : ∀ i < 74, ∀ c < 2, ∀ l < 128, (gatherLane i c l).toNat = i % 4 * 32 + 16 * c + l / 8 := by
  decide +kernel

theorem nibbleShift : ∀ l < 128, IntOp.muli (IntOp.andi (BitVec.ofNat 32 l) 7#32) 4#32 = BitVec.ofNat 32 (4 * (l % 8)) := by
  decide +kernel

/-- A gather along the lanes by lane numbers shaped up and back. -/
theorem gather_apply (z : Vec F S28x128 .i32) (x : IVec S28x128 32) (j kz : S28x128.Idx) (hz0 : (kz 0).val = (j 0).val) (hz1 : (kz 1).val = (x j).toNat) :
    dynamicGather 1 z (shapeCast S28x128 (shapeCast S28x128x1 x shapeCasts_S28x128_S28x128x1) shapeCasts_S28x128x1_S28x128) j = z kz := by
  have hx : shapeCast S28x128 (shapeCast S28x128x1 x shapeCasts_S28x128_S28x128x1) shapeCasts_S28x128x1_S28x128 j = x j := by
    have hj0 : (j 0).val < 28 := (j 0).isLt
    have hj1 : (j 1).val < 128 := (j 1).isLt
    let k : S28x128x1.Idx := fun a => match a with | ⟨0, _⟩ => ⟨(j 0).val, hj0⟩ | ⟨1, _⟩ => ⟨(j 1).val, hj1⟩ | ⟨2, _⟩ => ⟨0, Nat.one_pos⟩
    rw [shapeCast_apply _ shapeCasts_S28x128x1_S28x128 j k (by
          rw [Shape.rowMajor_val_two, Shape.rowMajor_val_three]
          show ((j 0).val * 128 + (j 1).val) * 1 + 0 = (j 0).val * 128 + (j 1).val
          omega),
      shapeCast_apply _ shapeCasts_S28x128_S28x128x1 k j (by
          rw [Shape.rowMajor_val_two, Shape.rowMajor_val_three]
          show (j 0).val * 128 + (j 1).val = ((j 0).val * 128 + (j 1).val) * 1 + 0
          omega)]
  rw [dynamicGather_apply, hx]
  refine congrArg z (funext fun a => ?_)
  match a with
  | ⟨0, _⟩ => exact Fin.ext hz0.symm
  | ⟨1, _⟩ =>
    refine Fin.ext ?_
    have : (kz 1).val < 128 := (kz 1).isLt
    show (x j).toNat % 128 = (kz 1).val
    omega

theorem coord_lt (i : grid0.Coords) : (i 0).val < 74 := (i 0).isLt

/-- The first 128 columns' zero points at an index. -/
theorem zeros_low (i : grid0.Coords) (z : Vec Ideal S28x128 .i32) (j kz : S28x128.Idx) (hz0 : (kz 0).val = (j 0).val)
    (hz1 : (kz 1).val = (i 0).val % 4 * 32 + (j 1).val / 8) :
    k0_pay2 (F := Ideal) i z j = (((nib (z kz) ((j 1).val % 8)).toInt : ℝ) : EReal) := by
  have hj1 : (j 1).val < 128 := (j 1).isLt
  have hsh := nibbleShift (0 * 128 + (j 1).val) (by omega)
  rw [show (0 * 128 + (j 1).val) % 8 = (j 1).val % 8 by omega] at hsh
  rw [← nib_of .vector (z kz) _ ((j 1).val % 8) (by omega) hsh]
  rw [← gather_apply (F := Ideal) z (fun j => gatherLane (i 0).val 0 (0 * 128 + (j 1).val)) j kz hz0
    (hz1.trans (by show _ = (gatherLane (i 0).val 0 (0 * 128 + (j 1).val)).toNat; rw [gatherLane_eq _ (coord_lt i) 0 (by omega) _ (by omega)]; omega))]
  rfl

/-- The next 128 columns' zero points at an index. -/
theorem zeros_high (i : grid0.Coords) (z : Vec Ideal S28x128 .i32) (j kz : S28x128.Idx) (hz0 : (kz 0).val = (j 0).val)
    (hz1 : (kz 1).val = (i 0).val % 4 * 32 + 16 + (j 1).val / 8) :
    (sitofp .f32 (andi (shrui (k0_pay3 (F := Ideal) i z) k0_pay4) (broadcast S28x128 15#32)) : FVec Ideal S28x128 .f32) j = (((nib (z kz) ((j 1).val % 8)).toInt : ℝ) : EReal) := by
  have hj1 : (j 1).val < 128 := (j 1).isLt
  have hsh := nibbleShift (0 * 128 + (j 1).val) (by omega)
  rw [show (0 * 128 + (j 1).val) % 8 = (j 1).val % 8 by omega] at hsh
  rw [← nib_of .vector (z kz) _ ((j 1).val % 8) (by omega) hsh]
  rw [← gather_apply (F := Ideal) z (fun j => gatherLane (i 0).val 1 (0 * 128 + (j 1).val)) j kz hz0
    (hz1.trans (by show _ = (gatherLane (i 0).val 1 (0 * 128 + (j 1).val)).toNat; rw [gatherLane_eq _ (coord_lt i) 1 (by omega) _ (by omega)]; omega))]
  rfl

/-- The zero points of a point's 256 columns at an index. -/
theorem zerosOf_apply (i : grid0.Coords) (z : Vec Ideal S28x128 .i32) (j : S28x256.Idx) (kz : S28x128.Idx) (hz0 : (kz 0).val = (j 0).val)
    (hz1 : (kz 1).val = (i 0).val % 4 * 32 + (j 1).val / 8) :
    zerosOf (F := Ideal) i z j = (((nib (z kz) ((j 1).val % 8)).toInt : ℝ) : EReal) := by
  have hj0 : (j 0).val < 28 := (j 0).isLt
  have hj1 : (j 1).val < 256 := (j 1).isLt
  unfold zerosOf k0_pay5
  by_cases h : (j 1).val < 128
  · let k : S28x128.Idx := fun a => match a with | ⟨0, _⟩ => ⟨(j 0).val, hj0⟩ | ⟨1, _⟩ => ⟨(j 1).val, h⟩
    refine (concatenate_apply_piece (1 : Fin S28x256.rank) [⟨S28x128, k0_pay2 i z⟩, ⟨S28x128, sitofp .f32 (andi (shrui (k0_pay3 (F := Ideal) i z) k0_pay4) (broadcast S28x128 15#32))⟩] concatenates_S28x128_S28x128_S28x256_d1 j 0 (show 0 < 2 by omega) S28x128 _ rfl rfl 0 rfl k ?_ ?_).trans ?_
    · intro b hb
      match b with
      | ⟨0, _⟩ => rfl
      | ⟨1, _⟩ => exact absurd rfl hb
    · show 0 + (j 1).val = (j 1).val; omega
    · exact zeros_low i z k kz hz0 hz1
  · let k : S28x128.Idx := fun a => match a with | ⟨0, _⟩ => ⟨(j 0).val, hj0⟩ | ⟨1, _⟩ => ⟨(j 1).val - 128, by show _ < 128; omega⟩
    refine (concatenate_apply_piece (1 : Fin S28x256.rank) [⟨S28x128, k0_pay2 i z⟩, ⟨S28x128, sitofp .f32 (andi (shrui (k0_pay3 (F := Ideal) i z) k0_pay4) (broadcast S28x128 15#32))⟩] concatenates_S28x128_S28x128_S28x256_d1 j 1 (show 1 < 2 by omega) S28x128 _ rfl rfl 128 rfl k ?_ ?_).trans ?_
    · intro b hb
      match b with
      | ⟨0, _⟩ => rfl
      | ⟨1, _⟩ => exact absurd rfl hb
    · show 128 + ((j 1).val - 128) = (j 1).val; omega
    · refine (zeros_high i z k kz hz0 ?_).trans ?_
      · show (kz 1).val = (i 0).val % 4 * 32 + 16 + ((j 1).val - 128) / 8; omega
      · show (((nib (z kz) (((j 1).val - 128) % 8)).toInt : ℝ) : EReal) = _
        rw [show ((j 1).val - 128) % 8 = (j 1).val % 8 by omega]

/-- The value of a scale's sixteen bits as the kernel computes it. -/
def halfVal (w : BitVec 16) : EReal :=
  let m : BitVec 32 := w.signExtend 32 &&& 32767#32
  let v : EReal := if IntOp.cmpi .slt m 1024#32 = 1 then ((m.toInt : ℝ) : EReal) * Ideal.ofBits .f32 0x33800000#32
    else Ideal.ofBits .f32 (m <<< 13#32) * Ideal.ofBits .f32 0x77800000#32
  if IntOp.cmpi .slt (w.signExtend 32) 0#32 = 1 then Ideal.ofBits .f32 0x00000000#32 - v else v

theorem scales_apply (s : Vec Ideal S28x256 .i16) (j : S28x256.Idx) : k0_pay6 (F := Ideal) s j = halfVal (s j) := by
  have h13 : ∀ m : BitVec 32, IntOp.shli .vector m 13#32 = m <<< 13#32 := fun m => if_pos (by decide)
  unfold halfVal
  simp only [← h13]
  rfl

end Cert.KernelIdeal.Hand

end
-- ==== Proof.KIdeal.Block.lean ====
/-
  The block of the output that one point of the grid computes, at an index, from the point's blocks of the arguments.
-/
module

public import proofs.«01_k».proof.Proof.KIdeal.Weights
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

open scoped BigOperators

/-- A dequantised weight: four bits of a packed word minus four bits of a packed zero-point word, times the scale. -/
def weight (q z : BitVec 32) (s : EReal) (a b : Nat) : EReal :=
  ((((nib q a).toInt : ℝ) : EReal) - (((nib z b).toInt : ℝ) : EReal)) * s

/-- The gated product of a row with two columns of weights: `silu (row · gate) * (row · up)`. -/
def gated (a g u : Fin 3584 → EReal) : EReal :=
  (∑ k, a k * g k) * Ideal.logistic (∑ k, a k * g k) * ∑ k, a k * u k

/-- The weight of input row `k` and column `n` of point `i`'s block. -/
def blockW (i : grid0.Coords) (q : Vec Ideal S448x256 .i32) (z : Vec Ideal S28x128 .i32) (s : Vec Ideal S28x256 .i16) (k : Fin 3584) (n : Fin 256) : EReal :=
  weight (q (ValueIdx.ix2 ⟨k.val / 8, by have := k.isLt; omega⟩ n))
    (z (ValueIdx.ix2 ⟨k.val / 128, by have := k.isLt; omega⟩ ⟨(i 0).val % 4 * 32 + n.val / 8, by have := n.isLt; omega⟩))
    (halfVal (s (ValueIdx.ix2 ⟨k.val / 128, by have := k.isLt; omega⟩ n))) (k.val % 8) (n.val % 8)

/-- One group's store at an index is the block's weight there. -/
theorem group_weight (i : grid0.Coords) (q : Vec Ideal S448x256 .i32) (z : Vec Ideal S28x128 .i32) (s : Vec Ideal S28x256 .i16)
    (g : Nat) (hg : g < 28) (x : S128x256.Idx) (r : Fin 3584) (n : Fin 256) (e0 : r.val = 128 * g + (x 0).val) (e1 : n.val = (x 1).val) :
    groupW (F := Ideal) (zerosOf i z) (k0_pay6 s) ![g, 0] (slicesG hg) (View.ld q (Rect.unit (s := S448x256) ![16 * g, 0] S16x256.size (inbQ hg))) x
      = blockW i q z s r n := by
  have hx0 : (x 0).val < 128 := (x 0).isLt
  have hx1 : (x 1).val < 256 := (x 1).isLt
  have hr3 : r.val < 3584 := r.isLt
  have hr : r.val / 128 = g := by omega
  have hm : r.val % 8 = (x 0).val % 8 := by omega
  rw [groupW_apply (zerosOf i z) (k0_pay6 s) g (slicesG hg) _ x (ValueIdx.ix2 (⟨(x 0).val / 8, by omega⟩ : Fin 16) (⟨(x 1).val, hx1⟩ : Fin 256)) rfl rfl
      (ValueIdx.ix2 (⟨r.val / 128, by omega⟩ : Fin 28) n) hr e1,
    zerosOf_apply i z (ValueIdx.ix2 (⟨r.val / 128, by omega⟩ : Fin 28) n) (ValueIdx.ix2 (⟨r.val / 128, by omega⟩ : Fin 28) (⟨(i 0).val % 4 * 32 + n.val / 8, by omega⟩ : Fin 128)) rfl rfl, scales_apply]
  have hq : View.ld q (Rect.unit (s := S448x256) ![16 * g, 0] S16x256.size (inbQ hg)) (ValueIdx.ix2 (⟨(x 0).val / 8, by omega⟩ : Fin 16) (⟨(x 1).val, hx1⟩ : Fin 256)) = q (ValueIdx.ix2 ⟨r.val / 8, by omega⟩ n) :=
    View.ld_unit_apply_of q _ _ _ _ _ (fun a => match a with
      | ⟨0, _⟩ => by show r.val / 8 = 16 * g + (x 0).val / 8; omega
      | ⟨1, _⟩ => by show n.val = 0 + (x 1).val; omega)
  rw [hq, ← hm]
  rfl

/-- What the 28 groups' stores leave is the block's weights. -/
theorem canon_weights (i : grid0.Coords) (q : Vec Ideal S448x256 .i32) (z : Vec Ideal S28x128 .i32) (s : Vec Ideal S28x256 .i16) :
    View.canon (weightPieces (F := Ideal) (zerosOf i z) (k0_pay6 s)
        (fun n h => View.ld q (Rect.unit (s := S448x256) ![16 * n, 0] S16x256.size (inbQ h))) 28 le_rfl)
      = (fun j => blockW i q z s (j 0) (j 1) : Vec Ideal S3584x256 .bf16) := by
  funext y
  have hy0 : (y 0).val < 3584 := (y 0).isLt
  have hy1 : (y 1).val < 256 := (y 1).isLt
  refine View.canon_apply_of_pieces (Val := Elt Ideal) (e := .bf16) (fun j => blockW i q z s (j 0) (j 1) : Vec Ideal S3584x256 .bf16) _ ?_ y ?_
  · intro p hp x
    obtain ⟨g, hg, rfl⟩ := (mem_weightPieces _ _ _ p 28 le_rfl).1 hp
    have hx0 : (x 0).val < 128 := (x 0).isLt
    have hx1 : (x 1).val < 256 := (x 1).isLt
    refine group_weight i q z s g hg x _ _ ?_ ?_
    · show 128 * g + 1 * (x 0).val = _; omega
    · show 0 + 1 * (x 1).val = _; omega
  · refine ⟨weightPiece _ _ _ ((y 0).val / 128) (by omega), (mem_weightPieces _ _ _ _ 28 le_rfl).2 ⟨(y 0).val / 128, by omega, rfl⟩, ?_⟩
    show y ∈ (Rect.unit (s := S3584x256) ![128 * ((y 0).val / 128), 0] S128x256.size (inbW (by omega))).set
    rw [Rect.mem_set_unit]
    intro a
    match a with
    | ⟨0, _⟩ => show 128 * ((y 0).val / 128) ≤ (y 0).val ∧ (y 0).val < 128 * ((y 0).val / 128) + 128; omega
    | ⟨1, _⟩ => show 0 ≤ (y 1).val ∧ (y 1).val < 0 + 256; omega

/-- One row block's output at an index. -/
theorem rowBlock_apply (a : Vec Ideal S800x3584 .bf16) (wg wu : Vec Ideal S3584x256 .bf16) (r : Fin 800) (n : Fin 256) :
    k0_pay1 (F := Ideal) a wg wu (ValueIdx.ix2 r n) = gated (fun k => a (ValueIdx.ix2 r k)) (fun k => wg (ValueIdx.ix2 k n)) (fun k => wu (ValueIdx.ix2 k n)) := by
  have hm : ∀ w : Vec Ideal S3584x256 .bf16,
      (matmul (F := Ideal) (φ₁ := .bf16) (φ₂ := .bf16) dot_S800x3584_S3584x256_S800x256_1_0_0_1_n_n none (a : FVec Ideal S800x3584 .bf16) (w : FVec Ideal S3584x256 .bf16) (constant S800x256 .f32 0x00000000#32) : FVec Ideal S800x256 .f32) (ValueIdx.ix2 r n)
        = (∑ k : Fin 3584, (a (ValueIdx.ix2 r k) : EReal) * w (ValueIdx.ix2 k n) : EReal) := by
    intro w
    refine (Ideal.matmul_plain_apply (φ₁ := .bf16) (φ₂ := .bf16) none a w (constant S800x256 .f32 0x00000000#32) r n).trans ?_
    show Ideal.ofBits .f32 0x00000000#32 + _ = _
    rw [Ideal.ofBits_zero_f32, zero_add]
  unfold gated
  rw [← hm wg, ← hm wu]
  rfl

/-- A point's block of the output at an index. -/
def blockOut (i : grid0.Coords) (x0 : Vec Ideal S3200x3584 .bf16) (x1 : Vec Ideal S448x256 .i32) (x2 : Vec Ideal S28x128 .i32) (x3 : Vec Ideal S28x256 .i16)
    (x4 : Vec Ideal S448x256 .i32) (x5 : Vec Ideal S28x128 .i32) (x6 : Vec Ideal S28x256 .i16) : Vec Ideal S3200x256 .bf16 :=
  fun y => gated (fun k => x0 (ValueIdx.ix2 (y 0) k)) (fun k => blockW i x1 x2 x3 k (y 1)) (fun k => blockW i x4 x5 x6 k (y 1))

/-- What the four row blocks' stores leave. -/
theorem canon_out (a : Vec Ideal S3200x3584 .bf16) (wg wu : Vec Ideal S3584x256 .bf16) :
    View.canon (outPieces (F := Ideal) (fun n h => View.ld a (Rect.unit (s := S3200x3584) ![800 * n, 0] S800x3584.size (inbA h))) wg wu 4 le_rfl)
      = (fun y => gated (fun k => a (ValueIdx.ix2 (y 0) k)) (fun k => wg (ValueIdx.ix2 k (y 1))) (fun k => wu (ValueIdx.ix2 k (y 1))) : Vec Ideal S3200x256 .bf16) := by
  funext y
  have hy0 : (y 0).val < 3200 := (y 0).isLt
  have hy1 : (y 1).val < 256 := (y 1).isLt
  refine View.canon_apply_of_pieces (Val := Elt Ideal) (e := .bf16) (fun y => gated (fun k => a (ValueIdx.ix2 (y 0) k)) (fun k => wg (ValueIdx.ix2 k (y 1))) (fun k => wu (ValueIdx.ix2 k (y 1))) : Vec Ideal S3200x256 .bf16) _ ?_ y ?_
  · intro p hp x
    obtain ⟨g, hg, rfl⟩ := (mem_outPieces _ _ _ p 4 le_rfl).1 hp
    have hx0 : (x 0).val < 800 := (x 0).isLt
    have hx1 : (x 1).val < 256 := (x 1).isLt
    show k0_pay1 (F := Ideal) (View.ld a (Rect.unit (s := S3200x3584) ![800 * g, 0] S800x3584.size (inbA hg))) wg wu x = _
    rw [show x = ValueIdx.ix2 (⟨(x 0).val, hx0⟩ : Fin 800) (⟨(x 1).val, hx1⟩ : Fin 256) from funext fun a => match a with | ⟨0, _⟩ => rfl | ⟨1, _⟩ => rfl]
    rw [rowBlock_apply]
    have e0 : ((Rect.unit (s := S3200x256) ![800 * g, 0] S800x256.size (inbO hg)).emb x 0).val = 800 * g + (x 0).val := by
      show 800 * g + 1 * (x 0).val = _; omega
    have e1 : (⟨(x 1).val, hx1⟩ : Fin 256) = (Rect.unit (s := S3200x256) ![800 * g, 0] S800x256.size (inbO hg)).emb x 1 := by
      refine Fin.ext ?_
      show (x 1).val = 0 + 1 * (x 1).val; omega
    show _ = gated (fun k => a (ValueIdx.ix2 ((Rect.unit (s := S3200x256) ![800 * g, 0] S800x256.size (inbO hg)).emb x 0) k))
      (fun k => wg (ValueIdx.ix2 k ((Rect.unit (s := S3200x256) ![800 * g, 0] S800x256.size (inbO hg)).emb x 1)))
      (fun k => wu (ValueIdx.ix2 k ((Rect.unit (s := S3200x256) ![800 * g, 0] S800x256.size (inbO hg)).emb x 1)))
    rw [← e1]
    congr 1
    funext k
    exact View.ld_unit_apply_of a _ _ _ _ _ (fun b => match b with
        | ⟨0, _⟩ => e0
        | ⟨1, _⟩ => by show k.val = 0 + k.val; omega)
  · refine ⟨outPiece _ _ _ ((y 0).val / 800) (by omega), (mem_outPieces _ _ _ _ 4 le_rfl).2 ⟨(y 0).val / 800, by omega, rfl⟩, ?_⟩
    show y ∈ (Rect.unit (s := S3200x256) ![800 * ((y 0).val / 800), 0] S800x256.size (inbO (by omega))).set
    rw [Rect.mem_set_unit]
    intro a
    match a with
    | ⟨0, _⟩ => show 800 * ((y 0).val / 800) ≤ (y 0).val ∧ (y 0).val < 800 * ((y 0).val / 800) + 800; omega
    | ⟨1, _⟩ => show 0 ≤ (y 1).val ∧ (y 1).val < 0 + 256; omega

/-- What the body's stores leave in the output block is the block's value. -/
theorem canon_L7 (c : Dev nD) (i : grid0.Coords) (arg1 : Memref sig .tc .vmem S3200x3584 .bf16) (harg1 : arg1.IsWhole) (arg2 : Memref sig .tc .vmem S448x256 .i32) (harg2 : arg2.IsWhole) (arg3 : Memref sig .tc .vmem S28x128 .i32) (harg3 : arg3.IsWhole) (arg4 : Memref sig .tc .vmem S28x256 .i16) (harg4 : arg4.IsWhole) (arg5 : Memref sig .tc .vmem S448x256 .i32) (harg5 : arg5.IsWhole) (arg6 : Memref sig .tc .vmem S28x128 .i32) (harg6 : arg6.IsWhole) (arg7 : Memref sig .tc .vmem S28x256 .i16) (harg7 : arg7.IsWhole) (arg8 : Memref sig .tc .vmem S3200x256 .bf16) (harg8 : arg8.IsWhole) (arg9 : Memref sig .tc .vmem S3584x256 .bf16) (harg9 : arg9.IsWhole) (arg10 : Memref sig .tc .vmem S3584x256 .bf16) (harg10 : arg10.IsWhole)
    (x0 : Vec Ideal S3200x3584 .bf16) (x1 : Vec Ideal S448x256 .i32) (x2 : Vec Ideal S28x128 .i32) (x3 : Vec Ideal S28x256 .i16) (x4 : Vec Ideal S448x256 .i32) (x5 : Vec Ideal S28x128 .i32) (x6 : Vec Ideal S28x256 .i16) :
    View.canon (kernelRun0_A (F := Ideal) c i arg1 harg1 arg2 harg2 arg3 harg3 arg4 harg4 arg5 harg5 arg6 harg6 arg7 harg7 arg8 harg8 arg9 harg9 arg10 harg10 x0 x1 x2 x3 x4 x5 x6).1
      = blockOut i x0 x1 x2 x3 x4 x5 x6 := by
  have z2 : (![0, 0] : Fin 2 → Nat) = fun _ => 0 := by funext a; fin_cases a <;> rfl
  have rd : ∀ {s : Shape} {e : EltTy} (arg : Memref sig .tc .vmem s e) (h : arg.IsWhole) (x : Vec Ideal s e) (r : Rect s),
      View.readAt (Elt Ideal) arg.view r.toLoadRect (h.unread x) = View.ld x r := by
    intro s e arg h x r
    rw [View.readAt_eq_ld, h.read_unread]
  have whole : ∀ (v : View sig .tc .vmem S3584x256 .bf16) (L : List (View.Piece (Elt Ideal) S3584x256 .bf16)),
      v.readCov L (Rect.unit (s := S3584x256) ![0, 0] S3584x256.size inb_S3584x256_S3584x256_0_0).toLoadRect = View.canon L := by
    intro v L
    rw [View.readCov_eq_canon']
    funext j
    exact congrArg _ (funext fun a => Fin.ext (match a with
      | ⟨0, _⟩ => by show 0 + 1 * (j 0).val = (j 0).val; omega
      | ⟨1, _⟩ => by show 0 + 1 * (j 1).val = (j 1).val; omega))
  rw [L7_eq, HS0_eq, HS1_eq, whole, whole]
  simp only [rd]
  rw [View.ld_unit_zero z2, View.ld_unit_zero z2, View.ld_unit_zero z2, View.ld_unit_zero z2, canon_weights, canon_weights, canon_out]
  rfl

end Cert.KernelIdeal.Hand

end
-- ==== Proof.KIdeal.Named.lean ====
/-
  The run of the gate/up kernel over the reals with the output named: at every grid point the body leaves the block's
  closed form, whatever the words past the end of the packed zero points are.
-/
module

public import proofs.«01_k».proof.Proof.KIdeal.Frame
public import proofs.«01_k».proof.Proof.KIdeal.Block
public import Idealize.ShloMosaic.Lib.Pipeline.Value
public import Idealize.ShloMosaic.Lib.Pipeline.ValueKit

@[expose] public section

set_option maxRecDepth 16384

noncomputable section

namespace Cert.KernelIdeal.Named

open Cert.KernelIdeal Cert.KernelIdeal.Gen
open Cert.KernelIdeal.Hand hiding dats A_eq after0_0 after0_1 after0_2 after0_3 after0_4 after0_5 after0_6 before0_0 before0_1 before0_2 before0_3 before0_4 before0_5 before0_6 bodyPre bodyPost sound_body body_obligation run_main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The words the body reads of a zero-point block lie inside the array: at every point, the block's part inside the
    array has all 28 rows and more than the point's 32 columns. -/
theorem inside2 : ∀ t : Fin grid0.N, win0_2.xsize (grid0.coords t) 0 = 28 ∧ (grid0.coords t 0).val % 4 * 32 + 32 ≤ win0_2.xsize (grid0.coords t) 1 := by
  decide +kernel
theorem inside5 : ∀ t : Fin grid0.N, win0_5.xsize (grid0.coords t) 0 = 28 ∧ (grid0.coords t 0).val % 4 * 32 + 32 ≤ win0_5.xsize (grid0.coords t) 1 := by
  decide +kernel

/-- A word inside the array does not depend on what the block's other words are. -/
theorem fill2_eq (t : Fin grid0.N) (d d' : Vec Ideal S28x128 .i32) (g : (win0_2.xblock (grid0.coords t)).Idx → BitVec 32) (r : Fin 28) (l : Fin 32) :
    win0_2.fill (grid0.coords t) d g (ValueIdx.ix2 r ⟨(grid0.coords t 0).val % 4 * 32 + l.val, by have := l.isLt; omega⟩)
      = win0_2.fill (grid0.coords t) d' g (ValueIdx.ix2 r ⟨(grid0.coords t 0).val % 4 * 32 + l.val, by have := l.isLt; omega⟩) := by
  have h : win0_2.moved (grid0.coords t) (ValueIdx.ix2 r ⟨(grid0.coords t 0).val % 4 * 32 + l.val, by have := l.isLt; omega⟩) = true :=
    (win0_2.moved_iff _ _).2 fun a => match a with
      | ⟨0, _⟩ => by show r.val < win0_2.xsize (grid0.coords t) 0; rw [(inside2 t).1]; exact r.isLt
      | ⟨1, _⟩ => by show (grid0.coords t 0).val % 4 * 32 + l.val < win0_2.xsize (grid0.coords t) 1; have := (inside2 t).2; have := l.isLt; omega
  unfold Pipeline.Window.fill
  rw [dif_pos h, dif_pos h]

theorem fill5_eq (t : Fin grid0.N) (d d' : Vec Ideal S28x128 .i32) (g : (win0_5.xblock (grid0.coords t)).Idx → BitVec 32) (r : Fin 28) (l : Fin 32) :
    win0_5.fill (grid0.coords t) d g (ValueIdx.ix2 r ⟨(grid0.coords t 0).val % 4 * 32 + l.val, by have := l.isLt; omega⟩)
      = win0_5.fill (grid0.coords t) d' g (ValueIdx.ix2 r ⟨(grid0.coords t 0).val % 4 * 32 + l.val, by have := l.isLt; omega⟩) := by
  have h : win0_5.moved (grid0.coords t) (ValueIdx.ix2 r ⟨(grid0.coords t 0).val % 4 * 32 + l.val, by have := l.isLt; omega⟩) = true :=
    (win0_5.moved_iff _ _).2 fun a => match a with
      | ⟨0, _⟩ => by show r.val < win0_5.xsize (grid0.coords t) 0; rw [(inside5 t).1]; exact r.isLt
      | ⟨1, _⟩ => by show (grid0.coords t 0).val % 4 * 32 + l.val < win0_5.xsize (grid0.coords t) 1; have := (inside5 t).2; have := l.isLt; omega
  unfold Pipeline.Window.fill
  rw [dif_pos h, dif_pos h]

/-- The weights read only words inside the array. -/
theorem blockW_fill2 (t : Fin grid0.N) (q : Vec Ideal S448x256 .i32) (s : Vec Ideal S28x256 .i16) (d d' : Vec Ideal S28x128 .i32) (g : (win0_2.xblock (grid0.coords t)).Idx → BitVec 32) (k : Fin 3584) (n : Fin 256) :
    blockW (grid0.coords t) q (win0_2.fill (grid0.coords t) d g) s k n = blockW (grid0.coords t) q (win0_2.fill (grid0.coords t) d' g) s k n := by
  unfold blockW
  exact congrArg (fun z => weight _ z _ _ _) (fill2_eq t d d' g ⟨k.val / 128, by have := k.isLt; omega⟩ ⟨n.val / 8, by have := n.isLt; omega⟩)

theorem blockW_fill5 (t : Fin grid0.N) (q : Vec Ideal S448x256 .i32) (s : Vec Ideal S28x256 .i16) (d d' : Vec Ideal S28x128 .i32) (g : (win0_5.xblock (grid0.coords t)).Idx → BitVec 32) (k : Fin 3584) (n : Fin 256) :
    blockW (grid0.coords t) q (win0_5.fill (grid0.coords t) d g) s k n = blockW (grid0.coords t) q (win0_5.fill (grid0.coords t) d' g) s k n := by
  unfold blockW
  exact congrArg (fun z => weight _ z _ _ _) (fill5_eq t d d' g ⟨k.val / 128, by have := k.isLt; omega⟩ ⟨n.val / 8, by have := n.isLt; omega⟩)

/-- What the body leaves in the output's buffer at point `t`. -/
def outAt (c : Dev nD) (t : Fin cfg0.N) : Vec Ideal S3200x256 .bf16 :=
  blockOut (grid0.coords t) (iblk m c 0 t) (iblk m c 1 t) (zfill2 m c t) (iblk m c 3 t) (iblk m c 4 t) (zfill5 m c t) (iblk m c 6 t)

/-- … whatever the words past the end of the zero points are. -/
theorem blockOut_fill (c : Dev nD) (t : Fin cfg0.N) (d2 d5 : Vec Ideal S28x128 .i32) :
    blockOut (grid0.coords t) (iblk m c 0 t) (iblk m c 1 t) (win0_2.fill (grid0.coords t) d2 (iblk m c 2 t)) (iblk m c 3 t) (iblk m c 4 t) (win0_5.fill (grid0.coords t) d5 (iblk m c 5 t)) (iblk m c 6 t)
      = outAt m c t := by
  funext y
  unfold outAt blockOut
  exact congrArg₂ (gated _) (funext fun k => blockW_fill2 t _ _ _ _ _ k _) (funext fun k => blockW_fill5 t _ _ _ _ _ k _)

/-- The run's pieces for the output tile its block, so they cover it. -/
theorem cover7 (c : Dev nD) (i : grid0.Coords) (arg1 : Memref sig .tc .vmem S3200x3584 .bf16) (harg1 : arg1.IsWhole) (arg2 : Memref sig .tc .vmem S448x256 .i32) (harg2 : arg2.IsWhole) (arg3 : Memref sig .tc .vmem S28x128 .i32) (harg3 : arg3.IsWhole) (arg4 : Memref sig .tc .vmem S28x256 .i16) (harg4 : arg4.IsWhole) (arg5 : Memref sig .tc .vmem S448x256 .i32) (harg5 : arg5.IsWhole) (arg6 : Memref sig .tc .vmem S28x128 .i32) (harg6 : arg6.IsWhole) (arg7 : Memref sig .tc .vmem S28x256 .i16) (harg7 : arg7.IsWhole) (arg8 : Memref sig .tc .vmem S3200x256 .bf16) (harg8 : arg8.IsWhole) (arg9 : Memref sig .tc .vmem S3584x256 .bf16) (harg9 : arg9.IsWhole) (arg10 : Memref sig .tc .vmem S3584x256 .bf16) (harg10 : arg10.IsWhole)
    (x0 : Vec Ideal S3200x3584 .bf16) (x1 : Vec Ideal S448x256 .i32) (x2 : Vec Ideal S28x128 .i32) (x3 : Vec Ideal S28x256 .i16) (x4 : Vec Ideal S448x256 .i32) (x5 : Vec Ideal S28x128 .i32) (x6 : Vec Ideal S28x256 .i16) (y : S3200x256.Idx) :
    ∃ pc ∈ (kernelRun0_A (F := Ideal) c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 x0 x1 x2 x3 x4 x5 x6).1 S800x256.size (by sl_kernel_rfl) y

/-- The proof data of the one pipeline on core `c`: the arrays as the region finds them (`V`); after the body at
    point `t` each input's buffer at its block and the output's at its closed form; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zfill2 m c t
    | ⟨3, _⟩ => iblk m c 3 t
    | ⟨4, _⟩ => iblk m c 4 t
    | ⟨5, _⟩ => zfill5 m c t
    | ⟨6, _⟩ => iblk m c 6 t
    | ⟨7, _⟩ => outAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = zfill2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zfill5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) :=
  ((dats m 0 c).before_in_eq_fetched 2 rfl (fun _ => rfl) (clip_of_index2)
    (fun t => by rw [after0_2]; exact (win0_2.cut_fill _ _ _).trans (by unfold Dat.blockOf iblk; rw [A_eq])) t d).trans
    (by unfold Dat.fetched Dat.blockOf iblk; rw [A_eq])
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = win0_5.fill (grid0.coords t) d (iblk m c 5 t) :=
  ((dats m 0 c).before_in_eq_fetched 5 rfl (fun _ => rfl) (clip_of_index5)
    (fun t => by rw [after0_5]; exact (win0_5.cut_fill _ _ _).trans (by unfold Dat.blockOf iblk; rw [A_eq])) t d).trans
    (by unfold Dat.fetched Dat.blockOf iblk; rw [A_eq])
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (F := Ideal) c (grid0.coords t) _ _ _ _ _ _ _ _ _ _ _ _ _ _ _ _ _ _ _ _ (iblk m c 0 t) (iblk m c 1 t) (win0_2.fill (grid0.coords t) d2 (iblk m c 2 t)) (iblk m c 3 t) (iblk m c 4 t) (win0_5.fill (grid0.coords t) d5 (iblk m c 5 t)) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexists d2; rw [show win0_2.cut (grid0.coords t) (zfill2 m c t) = iblk m c 2 t from win0_2.cut_fill _ _ _]; iexact H2
  isplitl [H3]; · iexact H3
  isplitl [H4]; · iexact H4
  isplitl [H5]; · iexists d5; rw [show win0_5.cut (grid0.coords t) (zfill5 m c t) = iblk m c 5 t from win0_5.cut_fill _ _ _]; iexact H5
  isplitl [H6]; · iexact H6
  unfold owns; iexists _; isplitr
  swap; · iexact H7
  ipureintro
  exact (View.read_writes_eq_canon _ _ _ (cover7 c _ _ _ _ _ _ _ _ _ _ _ _ _ _ _ _ _ _ _ _ _ _ _ _ _ _ _ _)).trans
    ((canon_L7 c _ _ _ _ _ _ _ _ _ _ _ _ _ _ _ _ _ _ _ _ _ _ _ _ _ _ _ _).trans (blockOut_fill m c t d2 d5))

/-- The library's body obligation, at every point. -/
theorem body_obligation (c : Dev nD) : Pipeline.BodyObligationLoose (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- THE RUN: every weakly fair execution terminates, with every array of the pipeline at what the proof data says. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Named

end
-- ==== Proof.KIdeal.Value.lean ====
/-
  The gate/up kernel's result over the reals as one formula of its arguments, index by index, and the run that leaves it.
-/
module

public import proofs.«01_k».proof.Proof.KIdeal.Named

@[expose] public section

set_option maxRecDepth 16384

noncomputable section

namespace Cert.KernelIdeal.Named

open Cert.KernelIdeal Cert.KernelIdeal.Gen
open Cert.KernelIdeal.Hand (zfill2 zfill5 blockOut blockW gated weight halfVal nib)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The weight of input row `k` and column `n` of the whole matrix. -/
def fullW (q : S448x18944.Idx → BitVec 32) (z : S28x2368.Idx → BitVec 32) (s : S28x18944.Idx → EReal) (k : Fin 3584) (n : Fin 18944) : EReal :=
  weight (q (ValueIdx.ix2 ⟨k.val / 8, by have := k.isLt; omega⟩ n))
    (z (ValueIdx.ix2 ⟨k.val / 128, by have := k.isLt; omega⟩ ⟨n.val / 8, by have := n.isLt; omega⟩))
    (s (ValueIdx.ix2 ⟨k.val / 128, by have := k.isLt; omega⟩ n)) (k.val % 8) (n.val % 8)

/-- The gated product of the whole activations with the whole matrices. -/
def gateUp (x : S3200x3584.Idx → EReal) (gq : S448x18944.Idx → BitVec 32) (gz : S28x2368.Idx → BitVec 32) (gs : S28x18944.Idx → EReal)
    (uq : S448x18944.Idx → BitVec 32) (uz : S28x2368.Idx → BitVec 32) (us : S28x18944.Idx → EReal) : S3200x18944.Idx → EReal :=
  fun y => gated (fun k => x (ValueIdx.ix2 (y 0) k)) (fun k => fullW gq gz gs k (y 1)) (fun k => fullW uq uz us k (y 1))

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val / 4] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val / 4] := (by decide +kernel : ∀ t : Fin grid0.N, _)
theorem index6 : ∀ t : Fin cfg0.N, win0_6.index t = ![0, t.val] := (by decide +kernel : ∀ t : Fin grid0.N, _)
theorem index7 : ∀ t : Fin cfg0.N, win0_7.index t = ![0, t.val] := (by decide +kernel : ∀ t : Fin grid0.N, _)
theorem coord_eq : ∀ t : Fin cfg0.N, (grid0.coords t 0).val = t.val := (by decide +kernel : ∀ t : Fin grid0.N, _)

/-- The point's block of the activations is the whole of them. -/
theorem rd0 (c : Dev nD) (t : Fin cfg0.N) (r : Fin 3200) (k : Fin 3584) :
    (iblk m c 0 t : Vec Ideal S3200x3584 .bf16) (ValueIdx.ix2 r k) = V m c main_arg0 (ValueIdx.ix2 r k) := by
  show V m c main_arg0 ((win0_0.blk t).view.emb (ValueIdx.ix2 r k)) = _
  refine congrArg _ (funext fun a => Fin.ext ?_)
  show win0_0.index t a * S3200x3584.size a + 1 * _ = _
  rw [index0]
  match a with
  | ⟨0, _⟩ => show 0 * 3200 + 1 * r.val = r.val; omega
  | ⟨1, _⟩ => show 0 * 3584 + 1 * k.val = k.val; omega

/-- A packed weight of the point's block. -/
theorem rd1 (c : Dev nD) (t : Fin cfg0.N) (r : Fin 448) (l : Fin 256) (n : Fin 18944) (e : n.val = t.val * 256 + l.val) :
    (iblk m c 1 t : Vec Ideal S448x256 .i32) (ValueIdx.ix2 r l) = V m c main_arg1 (ValueIdx.ix2 r n) := by
  show V m c main_arg1 ((win0_1.blk t).view.emb (ValueIdx.ix2 r l)) = _
  refine congrArg _ (funext fun a => Fin.ext ?_)
  show win0_1.index t a * S448x256.size a + 1 * _ = _
  rw [index1]
  match a with
  | ⟨0, _⟩ => show 0 * 448 + 1 * r.val = r.val; omega
  | ⟨1, _⟩ => show t.val * 256 + 1 * l.val = n.val; omega

theorem rd4 (c : Dev nD) (t : Fin cfg0.N) (r : Fin 448) (l : Fin 256) (n : Fin 18944) (e : n.val = t.val * 256 + l.val) :
    (iblk m c 4 t : Vec Ideal S448x256 .i32) (ValueIdx.ix2 r l) = V m c main_arg4 (ValueIdx.ix2 r n) := by
  show V m c main_arg4 ((win0_4.blk t).view.emb (ValueIdx.ix2 r l)) = _
  refine congrArg _ (funext fun a => Fin.ext ?_)
  show win0_4.index t a * S448x256.size a + 1 * _ = _
  rw [index4]
  match a with
  | ⟨0, _⟩ => show 0 * 448 + 1 * r.val = r.val; omega
  | ⟨1, _⟩ => show t.val * 256 + 1 * l.val = n.val; omega

/-- A scale's bits of the point's block. -/
theorem rd3 (c : Dev nD) (t : Fin cfg0.N) (r : Fin 28) (l : Fin 256) (n : Fin 18944) (e : n.val = t.val * 256 + l.val) :
    (iblk m c 3 t : Vec Ideal S28x256 .i16) (ValueIdx.ix2 r l) = V m c main_arg3 (ValueIdx.ix2 r n) := by
  show V m c main_arg3 ((win0_3.blk t).view.emb (ValueIdx.ix2 r l)) = _
  refine congrArg _ (funext fun a => Fin.ext ?_)
  show win0_3.index t a * S28x256.size a + 1 * _ = _
  rw [index3]
  match a with
  | ⟨0, _⟩ => show 0 * 28 + 1 * r.val = r.val; omega
  | ⟨1, _⟩ => show t.val * 256 + 1 * l.val = n.val; omega

theorem rd6 (c : Dev nD) (t : Fin cfg0.N) (r : Fin 28) (l : Fin 256) (n : Fin 18944) (e : n.val = t.val * 256 + l.val) :
    (iblk m c 6 t : Vec Ideal S28x256 .i16) (ValueIdx.ix2 r l) = V m c main_arg6 (ValueIdx.ix2 r n) := by
  show V m c main_arg6 ((win0_6.blk t).view.emb (ValueIdx.ix2 r l)) = _
  refine congrArg _ (funext fun a => Fin.ext ?_)
  show win0_6.index t a * S28x256.size a + 1 * _ = _
  rw [index6]
  match a with
  | ⟨0, _⟩ => show 0 * 28 + 1 * r.val = r.val; omega
  | ⟨1, _⟩ => show t.val * 256 + 1 * l.val = n.val; omega

/-- A packed zero point the body reads is the array's. -/
theorem rd2 (c : Dev nD) (t : Fin cfg0.N) (r : Fin 28) (l : Fin 32) (n : Fin 2368) (e : n.val = t.val * 32 + l.val) :
    zfill2 m c t (ValueIdx.ix2 r ⟨(grid0.coords t 0).val % 4 * 32 + l.val, by have := l.isLt; omega⟩) = V m c main_arg2 (ValueIdx.ix2 r n) := by
  have h : win0_2.moved (grid0.coords t) (ValueIdx.ix2 r ⟨(grid0.coords t 0).val % 4 * 32 + l.val, by have := l.isLt; omega⟩) = true :=
    (win0_2.moved_iff _ _).2 fun a => match a with
      | ⟨0, _⟩ => by show r.val < win0_2.xsize (grid0.coords t) 0; rw [(inside2 t).1]; exact r.isLt
      | ⟨1, _⟩ => by show (grid0.coords t 0).val % 4 * 32 + l.val < win0_2.xsize (grid0.coords t) 1; have := (inside2 t).2; have := l.isLt; omega
  unfold zfill2 Pipeline.Window.fill
  rw [dif_pos h]
  show V m c main_arg2 ((win0_2.blk t).view.emb _) = _
  refine congrArg _ (funext fun a => Fin.ext ?_)
  show win0_2.index t a * S28x128.size a + 1 * _ = _
  rw [index2]
  have := coord_eq t
  match a with
  | ⟨0, _⟩ => show 0 * 28 + 1 * r.val = r.val; omega
  | ⟨1, _⟩ => show t.val / 4 * 128 + 1 * ((grid0.coords t 0).val % 4 * 32 + l.val) = n.val; omega

theorem rd5 (c : Dev nD) (t : Fin cfg0.N) (r : Fin 28) (l : Fin 32) (n : Fin 2368) (e : n.val = t.val * 32 + l.val) :
    zfill5 m c t (ValueIdx.ix2 r ⟨(grid0.coords t 0).val % 4 * 32 + l.val, by have := l.isLt; omega⟩) = V m c main_arg5 (ValueIdx.ix2 r n) := by
  have h : win0_5.moved (grid0.coords t) (ValueIdx.ix2 r ⟨(grid0.coords t 0).val % 4 * 32 + l.val, by have := l.isLt; omega⟩) = true :=
    (win0_5.moved_iff _ _).2 fun a => match a with
      | ⟨0, _⟩ => by show r.val < win0_5.xsize (grid0.coords t) 0; rw [(inside5 t).1]; exact r.isLt
      | ⟨1, _⟩ => by show (grid0.coords t 0).val % 4 * 32 + l.val < win0_5.xsize (grid0.coords t) 1; have := (inside5 t).2; have := l.isLt; omega
  unfold zfill5 Pipeline.Window.fill
  rw [dif_pos h]
  show V m c main_arg5 ((win0_5.blk t).view.emb _) = _
  refine congrArg _ (funext fun a => Fin.ext ?_)
  show win0_5.index t a * S28x128.size a + 1 * _ = _
  rw [index5]
  have := coord_eq t
  match a with
  | ⟨0, _⟩ => show 0 * 28 + 1 * r.val = r.val; omega
  | ⟨1, _⟩ => show t.val / 4 * 128 + 1 * ((grid0.coords t 0).val % 4 * 32 + l.val) = n.val; omega

/-- A gate weight of the point's block is the whole matrix's. -/
theorem gateW (c : Dev nD) (t : Fin cfg0.N) (k : Fin 3584) (l : Fin 256) (n : Fin 18944) (e : n.val = t.val * 256 + l.val) :
    blockW (grid0.coords t) (iblk m c 1 t) (zfill2 m c t) (iblk m c 3 t) k l
      = fullW (V m c main_arg1) (V m c main_arg2) (fun j => halfVal (V m c main_arg3 j)) k n := by
  have hl := l.isLt
  have hk := k.isLt
  unfold blockW fullW
  rw [rd1 m c t _ l n e, rd3 m c t _ l n e,
    rd2 m c t ⟨k.val / 128, by omega⟩ ⟨l.val / 8, by omega⟩ ⟨n.val / 8, by have := n.isLt; omega⟩ (by show n.val / 8 = t.val * 32 + l.val / 8; omega),
    show l.val % 8 = n.val % 8 by omega]

/-- An up weight of the point's block is the whole matrix's. -/
theorem upW (c : Dev nD) (t : Fin cfg0.N) (k : Fin 3584) (l : Fin 256) (n : Fin 18944) (e : n.val = t.val * 256 + l.val) :
    blockW (grid0.coords t) (iblk m c 4 t) (zfill5 m c t) (iblk m c 6 t) k l
      = fullW (V m c main_arg4) (V m c main_arg5) (fun j => halfVal (V m c main_arg6 j)) k n := by
  have hl := l.isLt
  have hk := k.isLt
  unfold blockW fullW
  rw [rd4 m c t _ l n e, rd6 m c t _ l n e,
    rd5 m c t ⟨k.val / 128, by omega⟩ ⟨l.val / 8, by omega⟩ ⟨n.val / 8, by have := n.isLt; omega⟩ (by show n.val / 8 = t.val * 32 + l.val / 8; omega),
    show l.val % 8 = n.val % 8 by omega]

/-- The kernel's result array. -/
abbrev kval (c : Dev nD) : Buf (Elt Ideal) ((c.tc : Thread nD τ).loc main_v0) :=
  gateUp (V m c main_arg0) (V m c main_arg1) (V m c main_arg2) (fun j => halfVal (V m c main_arg3 j))
    (V m c main_arg4) (V m c main_arg5) (fun j => halfVal (V m c main_arg6 j))

/-- What the body leaves at a point is the result's block. -/
theorem outAt_apply (c : Dev nD) (t : Fin cfg0.N) (r : Fin 3200) (l : Fin 256) (n : Fin 18944) (e : n.val = t.val * 256 + l.val) :
    outAt m c t (ValueIdx.ix2 r l) = kval m c (ValueIdx.ix2 r n) := by
  show gated (fun k => (iblk m c 0 t : Vec Ideal S3200x3584 .bf16) (ValueIdx.ix2 r k)) (fun k => blockW (grid0.coords t) (iblk m c 1 t) (zfill2 m c t) (iblk m c 3 t) k l)
      (fun k => blockW (grid0.coords t) (iblk m c 4 t) (zfill5 m c t) (iblk m c 6 t) k l)
    = gated (fun k => V m c main_arg0 (ValueIdx.ix2 r k)) (fun k => fullW _ _ _ k n) (fun k => fullW _ _ _ k n)
  congr 1
  · exact funext fun k => rd0 m c t r k
  · exact funext fun k => gateW m c t k l n e
  · exact funext fun k => upW m c t k l n e

/-- The result array at the end of the run. -/
theorem final (c : Dev nD) : (dats m 0 c).arrAt 7 cfg0.N = kval m c := by
  refine (dats m 0 c).arrAt_eq_of_covers 7 _ (by decide +kernel) fun t hf y => ?_
  rw [after0_7]
  have h0 : (y 0).val < 3200 := (y 0).isLt
  have h1 : (y 1).val < 256 := (y 1).isLt
  have ht : t.val < 74 := t.isLt
  have hy : (cfg0.win 7).xinj (cfg0.grid.coords t) y = ValueIdx.ix2 (⟨(y 0).val, h0⟩ : Fin 3200) (⟨(y 1).val, h1⟩ : Fin 256) :=
    funext fun a => match a with | ⟨0, _⟩ => rfl | ⟨1, _⟩ => rfl
  have he : ((cfg0.win 7).blk t).view.emb y = ValueIdx.ix2 (⟨(y 0).val, h0⟩ : Fin 3200) (⟨t.val * 256 + (y 1).val, by omega⟩ : Fin 18944) := by
    refine funext fun a => Fin.ext ?_
    show win0_7.index t a * S3200x256.size a + 1 * _ = _
    rw [index7]
    match a with
    | ⟨0, _⟩ => show 0 * 3200 + 1 * (y 0).val = (y 0).val; omega
    | ⟨1, _⟩ => show t.val * 256 + 1 * (y 1).val = t.val * 256 + (y 1).val; omega
  rw [hy, he]
  exact outAt_apply m c t _ _ _ rfl

/-- The run, read: the result array at its formula and the arguments unchanged. -/
theorem run : θ_run defs (onTc (τ := τ) (main (F := Ideal))) ⟨m, fun _ => 0, ρ⟩ fun r => ∀ c : Dev nD,
      r.2.mem ((c.tc : Thread nD τ).loc main_v0) = kval m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.KernelIdeal.Named

end
-- ==== Proof.Ref.Weights.lean ====
/-
  The reference's dequantised weights and projection at an index.
-/
module

public import proofs.«01_k».proof.Proof.KIdeal.Value
public import proofs.«01_k».proof.Proof.Gen.ReferenceIdeal.Read
public import Idealize.ShloMosaic.Lib.TwoAxisContraction

@[expose] public section

set_option maxRecDepth 16384

noncomputable section

namespace Cert.ReferenceIdeal.Hand

open Cert.ReferenceIdeal Cert.ReferenceIdeal.Gen Cert.ReferenceIdeal.Read
open Cert.KernelIdeal.Hand (nib nib_of weight)
open Cert.KernelIdeal.Named (fullW)
open Idealize.ShloMosaic Idealize.ShloMosaic.TcCoe
open scoped BigOperators

/-- The reference's nibble of a packed weight: `4 j` bits down. -/
theorem nibble_q (x1 : S448x18944.Idx → BitVec 32) (j : Fin 8) (r : Fin 448) (n : Fin 18944) :
    val_main_v10 (F := Ideal) x1 (ValueIdx.ix3 j r n) = nib (x1 (ValueIdx.ix2 r n)) j.val := by
  rw [val_main_v10_apply, val_main_v9_apply, val_main_c_0_apply, val_main_v8_apply, val_main_v7_apply, val_main_v6_apply, val_main_v5_apply,
    val_main_v4_apply, val_main_v3_apply, val_main_v2_apply, val_main_v1_apply, val_main_c_apply]
  have e : idx_main_v6 (idx_main_v7 (ValueIdx.ix3 j r n)) = ValueIdx.ix2 r n := funext fun a => match a with | ⟨0, _⟩ => rfl | ⟨1, _⟩ => rfl
  rw [e]
  refine nib_of .host _ _ j.val j.isLt ?_
  show 4#32 * BitVec.ofNat 32 j.val = BitVec.ofNat 32 (4 * j.val)
  rw [BitVec.ofNat_mul]

/-- The reference's nibble of a packed zero point. -/
theorem nibble_z (x2 : S28x2368.Idx → BitVec 32) (j : Fin 8) (g : Fin 28) (l : Fin 2368) :
    val_main_v21 (F := Ideal) x2 (ValueIdx.ix3 j g l) = nib (x2 (ValueIdx.ix2 g l)) j.val := by
  rw [val_main_v21_apply, val_main_v20_apply, val_main_c_2_apply, val_main_v19_apply, val_main_v18_apply, val_main_v17_apply, val_main_v16_apply,
    val_main_v15_apply, val_main_v14_apply, val_main_v13_apply, val_main_v12_apply, val_main_c_1_apply]
  have e : idx_main_v17 (idx_main_v18 (ValueIdx.ix3 j g l)) = ValueIdx.ix2 g l := funext fun a => match a with | ⟨0, _⟩ => rfl | ⟨1, _⟩ => rfl
  rw [e]
  refine nib_of .host _ _ j.val j.isLt ?_
  show 4#32 * BitVec.ofNat 32 j.val = BitVec.ofNat 32 (4 * j.val)
  rw [BitVec.ofNat_mul]

/-- The zero points, unpacked, at a group and a column. -/
theorem zero_apply (x2 : S28x2368.Idx → BitVec 32) (g : Fin 28) (n : Fin 18944) :
    val_main_v23 (F := Ideal) x2 (ValueIdx.ix2 g n) = nib (x2 (ValueIdx.ix2 g ⟨n.val / 8, by have := n.isLt; omega⟩)) (n.val % 8) := by
  have hg := g.isLt
  have hn := n.isLt
  rw [val_main_v23_apply, val_main_v22_apply]
  have e : idx_main_v22 (idx_main_v23 (ValueIdx.ix2 g n)) = ValueIdx.ix3 (⟨n.val % 8, by omega⟩ : Fin 8) g (⟨n.val / 8, by omega⟩ : Fin 2368) :=
    funext fun a => Fin.ext (match a with
      | ⟨0, _⟩ => by show (g.val * 18944 + n.val) % 8 = n.val % 8; omega
      | ⟨1, _⟩ => by show (g.val * 18944 + n.val) / 18944 = g.val; omega
      | ⟨2, _⟩ => by show (g.val * 18944 + n.val) / 8 % 2368 = n.val / 8; omega)
  rw [e]
  exact nibble_z x2 _ _ _

/-- The reference's weight before it is laid out by packed rows, at a nibble, a group, a row of the group and a column. -/
theorem grouped_apply (x1 : S448x18944.Idx → BitVec 32) (x2 : S28x2368.Idx → BitVec 32) (r0 : S28x18944.Idx → EReal)
    (j : Fin 8) (g : Fin 28) (q : Fin 16) (n : Fin 18944) :
    val_main_v31 (F := Ideal) x1 x2 r0 (ValueIdx.ix4 j g q n)
      = weight (x1 (ValueIdx.ix2 ⟨g.val * 16 + q.val, by have := g.isLt; have := q.isLt; omega⟩ n)) (x2 (ValueIdx.ix2 g ⟨n.val / 8, by have := n.isLt; omega⟩))
        (r0 (ValueIdx.ix2 g n)) j.val (n.val % 8) := by
  have hj := j.isLt
  have hg := g.isLt
  have hq := q.isLt
  have hn := n.isLt
  rw [val_main_v31_apply, val_main_v28_apply, val_main_v24_apply, val_main_v11_apply, val_main_v27_apply, val_main_v26_apply, val_main_v25_apply,
    val_main_v30_apply, val_main_v29_apply]
  have e1 : idx_main_v11 (ValueIdx.ix4 j g q n) = ValueIdx.ix3 j (⟨g.val * 16 + q.val, by omega⟩ : Fin 448) n :=
    funext fun a => Fin.ext (match a with
      | ⟨0, _⟩ => by show (((j.val * 28 + g.val) * 16 + q.val) * 18944 + n.val) / 8486912 = j.val; omega
      | ⟨1, _⟩ => by show (((j.val * 28 + g.val) * 16 + q.val) * 18944 + n.val) / 18944 % 448 = g.val * 16 + q.val; omega
      | ⟨2, _⟩ => by show (((j.val * 28 + g.val) * 16 + q.val) * 18944 + n.val) % 18944 = n.val; omega)
  have e2 : idx_main_v26 (idx_main_v27 (ValueIdx.ix4 j g q n)) = ValueIdx.ix2 g n := funext fun a => match a with | ⟨0, _⟩ => rfl | ⟨1, _⟩ => rfl
  have e3 : idx_main_v29 (idx_main_v30 (ValueIdx.ix4 j g q n)) = ValueIdx.ix2 g n := funext fun a => match a with | ⟨0, _⟩ => rfl | ⟨1, _⟩ => rfl
  rw [e1, e2, e3, nibble_q, zero_apply]
  rfl

/-- The reference's weight at a nibble, a packed row and a column is the matrix's at the unpacked row. -/
theorem weight_apply (x1 : S448x18944.Idx → BitVec 32) (x2 : S28x2368.Idx → BitVec 32) (r0 : S28x18944.Idx → EReal)
    (j : Fin 8) (r : Fin 448) (n : Fin 18944) (k : Fin 3584) (hk : k.val = r.val * 8 + j.val) :
    val_main_v33 (F := Ideal) x1 x2 r0 (ValueIdx.ix3 j r n) = fullW x1 x2 r0 k n := by
  have hj := j.isLt
  have hr := r.isLt
  have hn := n.isLt
  have hd : ((j.val * 448 + r.val) * 18944 + n.val) / 303104 = j.val * 28 + r.val / 16 := by omega
  rw [val_main_v33_apply, val_main_v32_apply]
  have e : idx_main_v32 (ValueIdx.ix3 j r n) = ValueIdx.ix4 j (⟨r.val / 16, by omega⟩ : Fin 28) (⟨r.val % 16, by omega⟩ : Fin 16) n :=
    funext fun a => Fin.ext (match a with
      | ⟨0, _⟩ => by show ((j.val * 448 + r.val) * 18944 + n.val) / 8486912 = j.val; omega
      | ⟨1, _⟩ => by show ((j.val * 448 + r.val) * 18944 + n.val) / 303104 % 28 = r.val / 16; rw [hd]; omega
      | ⟨2, _⟩ => by show ((j.val * 448 + r.val) * 18944 + n.val) / 18944 % 16 = r.val % 16; omega
      | ⟨3, _⟩ => by show ((j.val * 448 + r.val) * 18944 + n.val) % 18944 = n.val; omega)
  rw [e]
  refine (grouped_apply x1 x2 r0 j _ _ n).trans ?_
  have a1 : (⟨r.val / 16 * 16 + r.val % 16, by omega⟩ : Fin 448) = ⟨k.val / 8, by have := k.isLt; omega⟩ := Fin.ext (by show r.val / 16 * 16 + r.val % 16 = k.val / 8; omega)
  have a2 : (⟨r.val / 16, by omega⟩ : Fin 28) = ⟨k.val / 128, by have := k.isLt; omega⟩ := Fin.ext (by show r.val / 16 = k.val / 128; omega)
  have a3 : j.val = k.val % 8 := by omega
  unfold fullW
  rw [a1, a2, a3]

/-- The activations regrouped by packed rows. -/
theorem act_apply (x0 : S3200x3584.Idx → EReal) (i : Fin 3200) (r : Fin 448) (j : Fin 8) (k : Fin 3584) (hk : k.val = r.val * 8 + j.val) :
    val_main_v34 (F := Ideal) x0 (ValueIdx.ix3 i r j) = x0 (ValueIdx.ix2 i k) := by
  have hi := i.isLt
  have hr := r.isLt
  have hj := j.isLt
  rw [val_main_v34_apply]
  refine congrArg x0 (funext fun a => Fin.ext ?_)
  match a with
  | ⟨0, _⟩ => show ((i.val * 448 + r.val) * 8 + j.val) / 3584 = i.val; omega
  | ⟨1, _⟩ => show ((i.val * 448 + r.val) * 8 + j.val) % 3584 = k.val; omega

/-- A sum over packed rows and nibbles is the sum over unpacked rows. -/
theorem sum_packed (f : Fin 3584 → EReal) :
    ∑ j : Fin 8, ∑ r : Fin 448, f ⟨r.val * 8 + j.val, by have := j.isLt; have := r.isLt; omega⟩ = ∑ k, f k := by
  rw [Finset.sum_comm, ← Fintype.sum_prod_type' (f := fun (r : Fin 448) (j : Fin 8) => f ⟨r.val * 8 + j.val, by have := j.isLt; have := r.isLt; omega⟩)]
  refine Fintype.sum_equiv (finProdFinEquiv (m := 448) (n := 8)) _ _ fun p => congrArg f (Fin.ext ?_)
  show p.1.val * 8 + p.2.val = p.2.val + 8 * p.1.val
  omega

/-- The reference's projection at a row and a column. -/
theorem proj_apply (x0 : S3200x3584.Idx → EReal) (x1 : S448x18944.Idx → BitVec 32) (x2 : S28x2368.Idx → BitVec 32) (r0 : S28x18944.Idx → EReal)
    (i : Fin 3200) (n : Fin 18944) :
    val_main_v35 (F := Ideal) x0 x1 x2 r0 (ValueIdx.ix2 i n) = ∑ k, x0 (ValueIdx.ix2 i k) * fullW x1 x2 r0 k n := by
  let D := dot_S3200x448x8_S8x448x18944_S3200x18944_21_01_0_2_n_n
  have hr : D.contr.rank = 2 := rfl
  have c0 : D.contr.size ⟨0, by rw [hr]; omega⟩ = 8 := rfl
  have c1 : D.contr.size ⟨1, by rw [hr]; omega⟩ = 448 := rfl
  unfold val_main_v35
  have hA := fun r j k hk => act_apply x0 i r j k hk
  have hB := fun j r k hk => weight_apply x1 x2 r0 j r n k hk
  generalize val_main_v34 (F := Ideal) x0 = A at hA ⊢
  generalize val_main_v33 (F := Ideal) x1 x2 r0 = B at hB ⊢
  simp only [Host.dotGeneral]
  rw [Ideal.dotGeneral_apply, ← Equiv.sum_comp (ValueIdx.contrEquiv2 D 8 448 hr c0 c1).symm, Fintype.sum_prod_type, ← sum_packed]
  refine Finset.sum_congr rfl fun j _ => Finset.sum_congr rfl fun r _ => ?_
  have h0 := ValueIdx.contrEquiv2_symm_val0 D 8 448 hr c0 c1 (j, r)
  have h1 := ValueIdx.contrEquiv2_symm_val1 D 8 448 hr c0 c1 (j, r)
  have el : D.lhsIdx (ValueIdx.ix2 i n) ((ValueIdx.contrEquiv2 D 8 448 hr c0 c1).symm (j, r)) = ValueIdx.ix3 i r j := by
    funext a; apply Fin.ext
    match a with
    | ⟨0, _⟩ => rfl
    | ⟨1, _⟩ => exact h1
    | ⟨2, _⟩ => exact h0
  have er : D.rhsIdx (ValueIdx.ix2 i n) ((ValueIdx.contrEquiv2 D 8 448 hr c0 c1).symm (j, r)) = ValueIdx.ix3 j r n := by
    funext a; apply Fin.ext
    match a with
    | ⟨0, _⟩ => exact h0
    | ⟨1, _⟩ => exact h1
    | ⟨2, _⟩ => rfl
  rw [el, er, hA r j ⟨r.val * 8 + j.val, by have := j.isLt; have := r.isLt; omega⟩ rfl, hB j r ⟨r.val * 8 + j.val, by have := j.isLt; have := r.isLt; omega⟩ rfl]

end Cert.ReferenceIdeal.Hand

end
-- ==== Proof.Ref.Value.lean ====
/-
  The reference's result over the reals as the same formula of its arguments as the kernel's, the scales read as 16-bit
  floats, and the run that leaves it.
-/
module

public import proofs.«01_k».proof.Proof.Ref.Weights
public import proofs.«01_k».proof.Proof.Gen.ReferenceIdeal.Run
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Read Cert.ReferenceIdeal.Value
open Cert.KernelIdeal.Hand (gated)
open Cert.KernelIdeal.Named (fullW gateUp)
open Idealize.ShloMosaic Idealize.ShloMosaic.TcCoe Idealize.SL.Sem
open scoped BigOperators

variable (m : (ℓ : Loc nD τ sig) → Buf (Elt Ideal) ℓ) (ρ : Dev nD → PrngReg)

/-- The activation `x · 1 / (1 + exp (-x))` as the reference writes it out. -/
theorem silu_apply (x0 : S3200x3584.Idx → EReal) (x1 : S448x18944.Idx → BitVec 32) (x2 : S28x2368.Idx → BitVec 32) (r0 : S28x18944.Idx → EReal)
    (y : S3200x18944.Idx) :
    (val_main_v36 (F := Ideal) x0 x1 x2 r0 y : EReal)
      = (val_main_v35 (F := Ideal) x0 x1 x2 r0 y : EReal) * Ideal.logistic (val_main_v35 (F := Ideal) x0 x1 x2 r0 y : EReal) := by
  have one : Ideal.ofBits .f32 0x3F800000#32 = 1 := by
    simp [Ideal.ofBits, Ideal.ieee, -EReal.coe_mul]; norm_num
  rw [val_main_v36_apply, val_main_call0_v5_apply, val_main_call0_v4_apply, val_main_call0_cst_0_apply, val_main_call0_v3_apply,
    val_main_call0_v2_apply, val_main_call0_cst_apply, val_main_call0_v1_apply, val_main_call0_v0_apply]
  generalize val_main_v35 (F := Ideal) x0 x1 x2 r0 y = g
  show (g : EReal) * Ideal.div (Ideal.ofBits .f32 0x3F800000#32) (Ideal.ofBits .f32 0x3F800000#32 + Ideal.exp (-g)) = g * Ideal.logistic g
  rw [one]
  rfl

/-- The up projection is the same chain of operations as the gate projection. -/
theorem up_eq (x0 : S3200x3584.Idx → EReal) (x4 : S448x18944.Idx → BitVec 32) (x5 : S28x2368.Idx → BitVec 32) (r1 : S28x18944.Idx → EReal) :
    val_main_v71 (F := Ideal) x0 x4 x5 r1 = val_main_v35 (F := Ideal) x0 x4 x5 r1 := rfl

/-- The reference's result from its arguments and the converted scales. -/
theorem result_eq (x0 : S3200x3584.Idx → EReal) (x1 : S448x18944.Idx → BitVec 32) (x2 : S28x2368.Idx → BitVec 32)
    (x4 : S448x18944.Idx → BitVec 32) (x5 : S28x2368.Idx → BitVec 32) (r0 r1 : S28x18944.Idx → EReal) :
    val_main_v73 (F := Ideal) x0 x1 x2 x4 x5 r0 r1 = gateUp x0 x1 x2 r0 x4 x5 r1 := by
  funext y
  have hy : y = ValueIdx.ix2 (y 0) (y 1) := funext fun a => match a with | ⟨0, _⟩ => rfl | ⟨1, _⟩ => rfl
  show (val_main_v36 (F := Ideal) x0 x1 x2 r0 y : EReal) * val_main_v71 (F := Ideal) x0 x4 x5 r1 y = _
  rw [silu_apply, up_eq]
  have e1 : val_main_v35 (F := Ideal) x0 x1 x2 r0 y = ∑ k, x0 (ValueIdx.ix2 (y 0) k) * fullW x1 x2 r0 k (y 1) :=
    (congrArg _ hy).trans (proj_apply x0 x1 x2 r0 (y 0) (y 1))
  have e2 : val_main_v35 (F := Ideal) x0 x4 x5 r1 y = ∑ k, x0 (ValueIdx.ix2 (y 0) k) * fullW x4 x5 r1 k (y 1) :=
    (congrArg _ hy).trans (proj_apply x0 x4 x5 r1 (y 0) (y 1))
  rw [e1, e2]
  rfl

theorem zero2 : (![0, 0] : Fin 2 → Nat) = fun _ => 0 := funext fun a => match a with | ⟨0, _⟩ => rfl | ⟨1, _⟩ => rfl

/-- The conversion's block is the whole array. -/
theorem emb_whole (t : Fin cfg0.N) (y : S28x18944.Idx) :
    (win0_0.blk t).view.emb y = y ∧ (win0_1.blk t).view.emb y = y ∧ (win0_2.blk t).view.emb y = y ∧ (win0_3.blk t).view.emb y = y := by
  have h0 : win0_0.index t = ![0, 0] := (by decide +kernel : ∀ t : Fin grid0.N, win0_0.index t = ![0, 0]) t
  have h1 : win0_1.index t = ![0, 0] := (by decide +kernel : ∀ t : Fin grid0.N, win0_1.index t = ![0, 0]) t
  have h2 : win0_2.index t = ![0, 0] := (by decide +kernel : ∀ t : Fin grid0.N, win0_2.index t = ![0, 0]) t
  have h3 : win0_3.index t = ![0, 0] := (by decide +kernel : ∀ t : Fin grid0.N, win0_3.index t = ![0, 0]) t
  refine ⟨funext fun a => Fin.ext ?_, funext fun a => Fin.ext ?_, funext fun a => Fin.ext ?_, funext fun a => Fin.ext ?_⟩
  · show win0_0.index t a * S28x18944.size a + 1 * _ = _
    rw [h0]
    match a with
    | ⟨0, _⟩ => show 0 * 28 + 1 * (y 0).val = (y 0).val; omega
    | ⟨1, _⟩ => show 0 * 18944 + 1 * (y 1).val = (y 1).val; omega
  · show win0_1.index t a * S28x18944.size a + 1 * _ = _
    rw [h1]
    match a with
    | ⟨0, _⟩ => show 0 * 28 + 1 * (y 0).val = (y 0).val; omega
    | ⟨1, _⟩ => show 0 * 18944 + 1 * (y 1).val = (y 1).val; omega
  · show win0_2.index t a * S28x18944.size a + 1 * _ = _
    rw [h2]
    match a with
    | ⟨0, _⟩ => show 0 * 28 + 1 * (y 0).val = (y 0).val; omega
    | ⟨1, _⟩ => show 0 * 18944 + 1 * (y 1).val = (y 1).val; omega
  · show win0_3.index t a * S28x18944.size a + 1 * _ = _
    rw [h3]
    match a with
    | ⟨0, _⟩ => show 0 * 28 + 1 * (y 0).val = (y 0).val; omega
    | ⟨1, _⟩ => show 0 * 18944 + 1 * (y 1).val = (y 1).val; omega

/-- The gate's scales, converted: the 16-bit floats their bits denote. -/
theorem scales_gate (c : Dev nD) :
    reg_main_v0_0 m c = (fun j => Ideal.ofBits .f16 (m ((c.tc : Thread nD τ).loc main_arg3) j) : S28x18944.Idx → EReal) := by
  unfold reg_main_v0_0
  refine (dats m 0 c).arrAt_eq_of_covers 2 _ (by decide +kernel) fun t hf y => ?_
  rw [after0_2]
  unfold out0_2
  rw [View.canon_unit_zero zero2, View.ld_unit_zero zero2]
  show Ideal.ofBits .f16 (V m c main_arg3 ((win0_0.blk t).view.emb y)) = Ideal.ofBits .f16 (m ((c.tc : Thread nD τ).loc main_arg3) ((win0_2.blk t).view.emb y))
  rw [(emb_whole t y).1, (emb_whole t y).2.2.1]
  exact congrArg (Ideal.ofBits .f16) (congrFun (V_main_arg3 m c) y)

/-- The up projection's scales, converted. -/
theorem scales_up (c : Dev nD) :
    reg_main_v0_1 m c = (fun j => Ideal.ofBits .f16 (m ((c.tc : Thread nD τ).loc main_arg6) j) : S28x18944.Idx → EReal) := by
  unfold reg_main_v0_1
  refine (dats m 0 c).arrAt_eq_of_covers 3 _ (by decide +kernel) fun t hf y => ?_
  rw [after0_3]
  unfold out0_3
  rw [View.canon_unit_zero zero2, View.ld_unit_zero zero2]
  show Ideal.ofBits .f16 (V m c main_arg6 ((win0_1.blk t).view.emb y)) = Ideal.ofBits .f16 (m ((c.tc : Thread nD τ).loc main_arg6) ((win0_3.blk t).view.emb y))
  rw [(emb_whole t y).2.1, (emb_whole t y).2.2.2]
  exact congrArg (Ideal.ofBits .f16) (congrFun (V_main_arg6 m c) y)

/-- The reference's result array. -/
abbrev rval (c : Dev nD) : Buf (Elt Ideal) ((c.tc : Thread nD τ).loc main_v73) :=
  gateUp (m ((c.tc : Thread nD τ).loc main_arg0)) (m ((c.tc : Thread nD τ).loc main_arg1)) (m ((c.tc : Thread nD τ).loc main_arg2))
    (fun j => Ideal.ofBits .f16 (m ((c.tc : Thread nD τ).loc main_arg3) j))
    (m ((c.tc : Thread nD τ).loc main_arg4)) (m ((c.tc : Thread nD τ).loc main_arg5))
    (fun j => Ideal.ofBits .f16 (m ((c.tc : Thread nD τ).loc main_arg6) j))

/-- The reference's result from the contents the conversion leaves. -/
theorem exit_result (c : Dev nD) :
    val_main_v73 (F := Ideal) (exitV m c (Proc.devRef .tc main_arg0)) (exitV m c (Proc.devRef .tc main_arg1)) (exitV m c (Proc.devRef .tc main_arg2))
      (exitV m c (Proc.devRef .tc main_arg4)) (exitV m c (Proc.devRef .tc main_arg5)) (exitV m c (Proc.devRef .tc main_v0_0)) (exitV m c (Proc.devRef .tc main_v0_1))
      = rval m c := by
  rw [exit_main_arg0, exit_main_arg1, exit_main_arg2, exit_main_arg4, exit_main_arg5, exit_main_v0_0, exit_main_v0_1, scales_gate, scales_up]
  exact result_eq _ _ _ _ _ _ _

/-- The run, read: the result array at its formula and the arguments unchanged. -/
theorem run : θ_run defs (onTc (τ := τ) (main (F := Ideal))) ⟨m, fun _ => 0, ρ⟩ fun r => ∀ c : Dev nD,
      r.2.mem ((c.tc : Thread nD τ).loc main_v73) = rval m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1.trans (val_main_v73_eq (exitV m c))).trans (exit_result m c), (h c).2⟩) (Cert.ReferenceIdeal.Value.run m ρ)

end Cert.ReferenceIdeal.Hand

end
-- ==== Proof.KIdeal.Half.lean ====
/-
  The kernel's arithmetic reading of a scale's sixteen bits is the number they denote as a 16-bit float, when that number
  is finite.
-/
module

public import proofs.«01_k».proof.Proof.KIdeal.Weights

@[expose] public section

noncomputable section

namespace Cert.KernelIdeal.Hand

open Idealize.ShloMosaic

/-- The fifteen bits below the sign, as the kernel cuts them out of the widened word. -/
theorem mag_toNat (w : BitVec 16) : (w.signExtend 32 &&& 32767#32).toNat = w.toNat % 32768 := by
  have hw := w.isLt
  rw [BitVec.toNat_and, show (32767#32).toNat = 2 ^ 15 - 1 from rfl, Nat.and_two_pow_sub_one_eq_mod, BitVec.toNat_signExtend, BitVec.toNat_setWidth]
  split <;> omega

/-- A widened word is negative exactly if the sign bit is set. -/
theorem neg_iff (w : BitVec 16) : IntOp.cmpi .slt (w.signExtend 32) 0#32 = 1 ↔ 32768 ≤ w.toNat := by
  have hw := w.isLt
  rw [show IntOp.cmpi .slt (w.signExtend 32) 0#32 = BitVec.ofBool ((w.signExtend 32).slt 0#32) from rfl,
    show (w.signExtend 32).slt 0#32 = decide ((w.signExtend 32).toInt < 0) from rfl, BitVec.toInt_signExtend_of_le (by decide),
    BitVec.toInt_eq_toNat_cond]
  by_cases h : 32768 ≤ w.toNat
  · rw [decide_eq_true (by split <;> omega)]; simp [h]
  · rw [decide_eq_false (by split <;> omega)]; simp [h]

/-- The magnitude is below 1024 exactly if the exponent bits are zero. -/
theorem small_iff (m : BitVec 32) (hm : m.toNat < 32768) : IntOp.cmpi .slt m 1024#32 = 1 ↔ m.toNat < 1024 := by
  rw [show IntOp.cmpi .slt m 1024#32 = BitVec.ofBool (m.slt 1024#32) from rfl,
    show m.slt 1024#32 = decide (m.toInt < 1024) from rfl, BitVec.toInt_eq_toNat_cond]
  by_cases h : m.toNat < 1024
  · rw [decide_eq_true (by split <;> omega)]; simp [h]
  · rw [decide_eq_false (by split <;> omega)]; simp [h]

/-- A pattern of a 16-bit float of finite value, by its fields. -/
theorem half_fields (w : BitVec 16) (h : w.toNat / 1024 % 32 ≠ 31) :
    Ideal.ofBits .f16 w = if w.toNat / 1024 % 32 = 0 then ((((if 32768 ≤ w.toNat then -1 else 1) * ((w.toNat % 1024 : ℕ) : ℝ) * (2 : ℝ) ^ (-24 : ℤ) : ℝ)) : EReal)
      else (((if 32768 ≤ w.toNat then -1 else 1) * ((1024 + w.toNat % 1024 : ℕ) : ℝ) * (2 : ℝ) ^ (((w.toNat / 1024 % 32 : ℕ) : ℤ) - 25) : ℝ) : EReal) := by
  have hw := w.isLt
  have hn : (w.extractLsb' 15 1 == 1#1) = decide (32768 ≤ w.toNat) := by
    rw [Bool.eq_iff_iff, beq_iff_eq, decide_eq_true_iff, ← BitVec.toNat_inj, BitVec.extractLsb'_toNat, Nat.shiftRight_eq_div_pow]
    show w.toNat / 2 ^ 15 % 2 ^ 1 = 1 ↔ _
    omega
  have he : (w.extractLsb' 10 5).toNat = w.toNat / 1024 % 32 := by
    rw [BitVec.extractLsb'_toNat, Nat.shiftRight_eq_div_pow]
  have hf : (w.extractLsb' 0 10).toNat = w.toNat % 1024 := by
    rw [BitVec.extractLsb'_toNat, Nat.shiftRight_eq_div_pow, pow_zero, Nat.div_one]
  show Ideal.ieee 5 10 w = _
  unfold Ideal.ieee
  simp only [hn, he, hf, show 5 + 10 = 15 from rfl]
  rw [if_neg (by omega)]
  simp only [decide_eq_true_eq]
  congr 1
  congr 3
  push_cast
  ring_nf

/-- The magnitude moved into a 32-bit float's fields: the exponent and the leading ten fraction bits. -/
theorem single_fields (m : BitVec 32) (hm : m.toNat < 31744) (h : 1024 ≤ m.toNat) :
    Ideal.ofBits .f32 (m <<< 13#32) = ((((1024 + m.toNat % 1024 : ℕ) : ℝ) * (2 : ℝ) ^ (((m.toNat / 1024 : ℕ) : ℤ) - 137) : ℝ) : EReal) := by
  have hs : (m <<< 13#32).toNat = m.toNat * 8192 := by
    show (m <<< 13).toNat = _
    rw [BitVec.toNat_shiftLeft, Nat.shiftLeft_eq]
    omega
  have hn : ((m <<< 13#32).extractLsb' 31 1 == 1#1) = false := by
    rw [beq_eq_false_iff_ne, ne_eq, ← BitVec.toNat_inj, BitVec.extractLsb'_toNat, Nat.shiftRight_eq_div_pow, hs]
    show ¬ m.toNat * 8192 / 2 ^ 31 % 2 ^ 1 = 1
    omega
  have he : ((m <<< 13#32).extractLsb' 23 8).toNat = m.toNat / 1024 := by
    rw [BitVec.extractLsb'_toNat, Nat.shiftRight_eq_div_pow, hs]
    omega
  have hf : ((m <<< 13#32).extractLsb' 0 23).toNat = m.toNat % 1024 * 8192 := by
    rw [BitVec.extractLsb'_toNat, Nat.shiftRight_eq_div_pow, hs]
    omega
  show Ideal.ieee 8 23 (m <<< 13#32) = _
  unfold Ideal.ieee
  simp only [hn, he, hf, show 8 + 23 = 31 from rfl]
  rw [if_neg (by omega), if_neg (by omega)]
  rw [EReal.coe_eq_coe_iff]
  simp only [Bool.false_eq_true, if_false, one_mul]
  have e : (((m.toNat / 1024 : ℕ) : ℤ) - 137 : ℤ) = 13 + (((m.toNat / 1024 : ℕ) : ℤ) - (2 ^ (8 - 1) - 1) - (23 : ℕ)) := by
    push_cast; ring
  rw [e, zpow_add₀ (by norm_num : (2 : ℝ) ≠ 0), ← mul_assoc]
  congr 1
  push_cast
  norm_num
  ring

theorem scale_sub : Ideal.ofBits .f32 0x33800000#32 = (((2 : ℝ) ^ (-24 : ℤ) : ℝ) : EReal) := by
  simp [Ideal.ofBits, Ideal.ieee, -EReal.coe_mul]; norm_num
theorem scale_norm : Ideal.ofBits .f32 0x77800000#32 = (((2 : ℝ) ^ (112 : ℤ) : ℝ) : EReal) := by
  simp [Ideal.ofBits, Ideal.ieee, -EReal.coe_mul, -EReal.coe_pow]; norm_num [-EReal.coe_pow]

/-- The kernel's reading of sixteen bits is the 16-bit float they denote, when its exponent bits are not all ones. -/
theorem halfVal_eq (w : BitVec 16) (h : w.toNat / 1024 % 32 ≠ 31) : halfVal w = Ideal.ofBits .f16 w := by
  have hw := w.isLt
  have hm := mag_toNat w
  have hmi : (w.signExtend 32 &&& 32767#32).toInt = ((w.toNat % 32768 : ℕ) : ℤ) := by
    rw [BitVec.toInt_eq_toNat_cond, hm]; split <;> omega
  rw [half_fields w h]
  unfold halfVal
  simp only []
  have key : (if IntOp.cmpi .slt (w.signExtend 32 &&& 32767#32) 1024#32 = 1 then (((w.signExtend 32 &&& 32767#32).toInt : ℝ) : EReal) * Ideal.ofBits .f32 0x33800000#32
      else Ideal.ofBits .f32 ((w.signExtend 32 &&& 32767#32) <<< 13#32) * Ideal.ofBits .f32 0x77800000#32)
      = (if w.toNat / 1024 % 32 = 0 then ((((w.toNat % 1024 : ℕ) : ℝ) * (2 : ℝ) ^ (-24 : ℤ) : ℝ) : EReal)
        else ((((1024 + w.toNat % 1024 : ℕ) : ℝ) * (2 : ℝ) ^ (((w.toNat / 1024 % 32 : ℕ) : ℤ) - 25) : ℝ) : EReal)) := by
    by_cases h0 : w.toNat / 1024 % 32 = 0
    · rw [if_pos h0, if_pos ((small_iff _ (by omega)).2 (by omega)), hmi, scale_sub, ← EReal.coe_mul,
        show w.toNat % 32768 = w.toNat % 1024 by omega]
      rfl
    · rw [if_neg h0, if_neg (fun e => by have := (small_iff _ (by omega)).1 e; omega),
        single_fields _ (by omega) (by omega), scale_norm, ← EReal.coe_mul, hm,
        show w.toNat % 32768 % 1024 = w.toNat % 1024 by omega, show w.toNat % 32768 / 1024 = w.toNat / 1024 % 32 by omega,
        mul_assoc, ← zpow_add₀ (by norm_num : (2 : ℝ) ≠ 0)]
      congr 4
      ring
  rw [key]
  by_cases hn : 32768 ≤ w.toNat
  · rw [if_pos ((neg_iff w).2 hn), Ideal.ofBits_zero_f32, zero_sub]
    simp only [if_pos hn]
    split
    · rw [← EReal.coe_neg]; congr 1; ring
    · rw [← EReal.coe_neg]; congr 1; ring
  · rw [if_neg (fun e => hn ((neg_iff w).1 e))]
    simp only [if_neg hn, one_mul]

end Cert.KernelIdeal.Hand

end
-- ==== Proof.Ref.Finite.lean ====
/-
  What the precondition says of each scale, and the kernel's and the reference's formulas at equal arguments.
-/
module

public import proofs.«01_k».proof.Defs
public import proofs.«01_k».proof.Proof.KIdeal.Half
public import proofs.«01_k».proof.Proof.Gen.Pre_finite_scales
public import Idealize.ShloMosaic.Lib.ReduceAll

@[expose] public section

noncomputable section

namespace Cert.Finite

open Idealize.ShloMosaic Cert.Pre_finite_scales Cert.KernelIdeal.Hand

/-- A word whose exponent bits are compared unequal to all ones has not all of them set. -/
theorem exponent_ne (w : BitVec 16) (h : IntOp.cmpi .ne (IntOp.andi (w.signExtend 32) 31744#32) 31744#32 = 1#1) : w.toNat / 1024 % 32 ≠ 31 := by
  have hw := w.isLt
  intro e
  have hand : w.signExtend 32 &&& 31744#32 = 31744#32 := by
    have hs := mag_toNat w
    have hm : (w.signExtend 32 &&& 32767#32) &&& 31744#32 = w.signExtend 32 &&& 31744#32 := by
      rw [BitVec.and_assoc]; rfl
    rw [← hm]
    have hd : ∀ f : Fin 1024, BitVec.ofNat 32 (31744 + f.val) &&& 31744#32 = 31744#32 := by decide +kernel
    have hv : w.signExtend 32 &&& 32767#32 = BitVec.ofNat 32 (31744 + w.toNat % 1024) := by
      apply BitVec.eq_of_toNat_eq
      rw [hs, BitVec.toNat_ofNat]
      omega
    rw [hv]
    exact hd ⟨w.toNat % 1024, by omega⟩
  rw [show IntOp.andi (w.signExtend 32) 31744#32 = w.signExtend 32 &&& 31744#32 from rfl, hand] at h
  exact absurd h (by decide)

instance : Subsingleton S_.Idx := ⟨fun a b => funext fun i => i.elim0⟩

/-- Under the precondition no scale's exponent bits are all ones. -/
theorem of_pre (x0 : FVec Ideal S3200x3584 .bf16) (x1 : IVec S448x18944 32) (x2 : IVec S28x2368 32) (x3 : IVec S28x18944 16)
    (x4 : IVec S448x18944 32) (x5 : IVec S28x2368 32) (x6 : IVec S28x18944 16)
    (h : Cert.Pre_finite_scales.fn (F := Ideal) x0 x1 x2 x3 x4 x5 x6 = fun _ => 1#1) (j : S28x18944.Idx) :
    (x3 j).toNat / 1024 % 32 ≠ 31 ∧ (x6 j).toNat / 1024 % 32 ≠ 31 := by
  have h0 := congrFun h (fun a => a.elim0)
  obtain ⟨ha, hb⟩ := IntOp.andi_eq_one.1 h0
  exact ⟨exponent_ne _ (Host.reduce_andi_all _ _ _ _ _ ha j), exponent_ne _ (Host.reduce_andi_all _ _ _ _ _ hb j)⟩

end Cert.Finite

end
-- ==== Proof.OIdeal.Pieces.lean ====
/-
  What the output projection's stores leave, in one form: the weights' stores are one function of the chunk of 512
  columns and the group of 128 input rows, the stores of the rows one function of the chunk.
-/
module

public import proofs.«01_k».proof.Proof.Gen.OprojIdeal.Frame
public import Idealize.ShloMosaic.Lib.Pipeline.ValueKit.Tiles

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic

variable {F : FTy → Type} [FloatOps F]

/-- The zero points of 128 columns whose first word is lane `base`, spread from the packed words. -/
def lanes (z : IVec S28x128 32) (base : BitVec 32) : FVec F S28x128 .f32 :=
  let i : IVec S28x128 32 := iota .tc S28x128 32 [1] iota_S28x128_d1_w32
  let x : IVec S28x128 32 := addi (shrsi i (broadcast S28x128 3#32)) (broadcast S28x128 base)
  sitofp .f32 (andi (shrui (dynamicGather 1 z (shapeCast S28x128 (shapeCast S28x128x1 (select (cmpi .slt x (broadcast S28x128 0#32)) (addi x (broadcast S28x128 128#32)) x)
    shapeCasts_S28x128_S28x128x1) shapeCasts_S28x128x1_S28x128)) (muli (andi i (broadcast S28x128 7#32)) (broadcast S28x128 4#32))) (broadcast S28x128 15#32))

/-- The zero points of 512 columns whose first word is lane `b`. -/
def zerosOf (z : IVec S28x128 32) (b : Nat) : FVec F S28x512 .f32 :=
  concatenate S28x512 1 [⟨S28x128, lanes z (BitVec.ofNat 32 (b + 16 * 0))⟩, ⟨S28x128, lanes z (BitVec.ofNat 32 (b + 16 * 1))⟩,
    ⟨S28x128, lanes z (BitVec.ofNat 32 (b + 16 * 2))⟩, ⟨S28x128, lanes z (BitVec.ofNat 32 (b + 16 * 3))⟩] concatenates_S28x128_S28x128_S28x128_S28x128_S28x512_d1

/-- The last 64 words of zero points, filled up to 128 lanes. -/
def lastWords (z : Vec F S28x64 .i32) : IVec S28x128 32 :=
  concatenate S28x128 1 [⟨S28x64, z⟩, ⟨S28x64, broadcast S28x64 0#32⟩] concatenates_S28x64_S28x64_S28x128_d1

/-- The scales of 512 columns. -/
def scalesOf (s : Vec F S28x512 .i16) : FVec F S28x512 .f32 := k0_pay9 (k0_pay7 s) (k0_pay8 s)

/-- The dequantised weights of one group: its sixteen rows of packed words spread over 128 rows, eight to a word, minus the
    group's zero points, times the group's scales. -/
def groupW (Z S : FVec F S28x512 .f32) (off : Fin 2 → Nat) (h : S28x512.Slices off S1x512) (q : Vec F S16x512 .i32) : FVec F S128x512 .bf16 :=
  shapeCast S128x512 (truncf .bf16 (mulf (extf .f32 (subf (sitofp .bf16 (shapeCast S128x512 (andi (shrui
      (broadcastTo S16x8x512 (shapeCast S16x1x512 (shapeCast S16x1x512 q shapeCasts_S16x512_S16x1x512) shapeCasts_S16x1x512_S16x1x512) broadcasts_S16x1x512_S16x8x512)
      (muli (iota .tc S16x8x512 32 [1] iota_S16x8x512_d1_w32) (broadcast S16x8x512 4#32))) (broadcast S16x8x512 15#32)) shapeCasts_S16x8x512_S128x512))
      (broadcastTo S128x512 (truncf .bf16 (extractStridedSlice S1x512 off Z h) bitsLt_bf16_f32) broadcasts_S1x512_S128x512)) bitsLt_bf16_f32)
    (broadcastTo S128x512 (extractStridedSlice S1x512 off S h) broadcasts_S1x512_S128x512)) bitsLt_bf16_f32) shapeCasts_S128x512_S128x512

theorem inbQ {c n : Nat} (hc : c < 7) (h : n < 28) : ∀ a, (![16 * n, 512 * c] : Fin 2 → Nat) a + S16x512.size a ≤ S448x3584.size a := by
  intro a; fin_cases a
  · show 16 * n + 16 ≤ 448; omega
  · show 512 * c + 512 ≤ 3584; omega

theorem inbG {c n : Nat} (hc : c < 7) (h : n < 28) : ∀ a, (![128 * n, 512 * c] : Fin 2 → Nat) a + S128x512.size a ≤ S3584x3584.size a := by
  intro a; fin_cases a
  · show 128 * n + 128 ≤ 3584; omega
  · show 512 * c + 512 ≤ 3584; omega

theorem inbS {c : Nat} (hc : c < 7) : ∀ a, (![0, 512 * c] : Fin 2 → Nat) a + S28x512.size a ≤ S28x3584.size a := by
  intro a; fin_cases a
  · show 0 + 28 ≤ 28; omega
  · show 512 * c + 512 ≤ 3584; omega

theorem inbZ {t : Nat} (ht : t < 3) : ∀ a, (![0, 128 * t] : Fin 2 → Nat) a + S28x128.size a ≤ S28x448.size a := by
  intro a; fin_cases a
  · show 0 + 28 ≤ 28; omega
  · show 128 * t + 128 ≤ 448; omega

theorem inbL : ∀ a, (![0, 384] : Fin 2 → Nat) a + S28x64.size a ≤ S28x448.size a := by
  intro a; fin_cases a
  · show 0 + 28 ≤ 28; omega
  · show 384 + 64 ≤ 448; omega

theorem inbC {c : Nat} (hc : c < 7) : ∀ a, (![0, 512 * c] : Fin 2 → Nat) a + S3584x512.size a ≤ S3584x3584.size a := by
  intro a; fin_cases a
  · show 0 + 3584 ≤ 3584; omega
  · show 512 * c + 512 ≤ 3584; omega

theorem inbR {c : Nat} (hc : c < 7) : ∀ a, (![0, 512 * c] : Fin 2 → Nat) a + S320x512.size a ≤ S320x3584.size a := by
  intro a; fin_cases a
  · show 0 + 320 ≤ 320; omega
  · show 512 * c + 512 ≤ 3584; omega

theorem slicesG {n : Nat} (h : n < 28) : S28x512.Slices ![n, 0] S1x512 := by
  refine ⟨rfl, fun a => ?_⟩; fin_cases a
  · show n + 1 ≤ 28; omega
  · show 0 + 512 ≤ 512; omega

/-- What the body reads of the packed weights, the packed zero points and the scales' bits, per chunk and group. -/
structure Reads (F : FTy → Type) where
  /-- sixteen rows of packed weights -/
  q : ∀ c n, c < 7 → n < 28 → Vec F S16x512 .i32
  /-- 128 words of zero points -/
  z : ∀ t, t < 3 → Vec F S28x128 .i32
  /-- the last 64 words of zero points -/
  l : Vec F S28x64 .i32
  /-- the scales' bits of 512 columns -/
  s : ∀ c, c < 7 → Vec F S28x512 .i16

/-- The words of zero points that chunk `c`'s columns are in. -/
def words (R : Reads F) (c : Nat) : IVec S28x128 32 :=
  if h : c / 2 < 3 then R.z (c / 2) h else lastWords (F := F) R.l

/-- The store of group `n`'s weights of chunk `c`. -/
def weightPiece (R : Reads F) (c n : Nat) (hc : c < 7) (h : n < 28) : View.Piece (Elt F) S3584x3584 .bf16 :=
  ⟨Rect.unit ![128 * n, 512 * c] S128x512.size (inbG hc h),
    groupW (zerosOf (words R c) (c % 2 * 64)) (scalesOf (R.s c hc)) ![n, 0] (slicesG h) (R.q c n hc h)⟩

/-- The stores of the first `n` groups of chunk `c`, last first, over the earlier ones. -/
def chunkPieces (R : Reads F) (c : Nat) (hc : c < 7) (L : List (View.Piece (Elt F) S3584x3584 .bf16)) : (n : Nat) → n ≤ 28 → List (View.Piece (Elt F) S3584x3584 .bf16)
  | 0, _ => L
  | n + 1, h => weightPiece R c n hc h :: chunkPieces R c hc L n (Nat.le_of_succ_le h)

/-- The stores of the first `c` chunks. -/
def allPieces (R : Reads F) : (c : Nat) → c ≤ 7 → List (View.Piece (Elt F) S3584x3584 .bf16)
  | 0, _ => []
  | c + 1, h => chunkPieces R c h (allPieces R c (Nat.le_of_succ_le h)) 28 le_rfl

theorem mem_chunkPieces (R : Reads F) (c : Nat) (hc : c < 7) (L) (p) : ∀ (n : Nat) (h : n ≤ 28),
    p ∈ chunkPieces R c hc L n h ↔ (∃ g, ∃ hg : g < n, p = weightPiece R c g hc (Nat.lt_of_lt_of_le hg h)) ∨ p ∈ L
  | 0, _ => by simp [chunkPieces]
  | n + 1, h => by
    rw [chunkPieces, List.mem_cons, mem_chunkPieces R c hc L p n]
    constructor
    · rintro (rfl | ⟨g, hg, rfl⟩ | h')
      · exact Or.inl ⟨n, Nat.lt_succ_self n, rfl⟩
      · exact Or.inl ⟨g, Nat.lt_succ_of_lt hg, rfl⟩
      · exact Or.inr h'
    · rintro (⟨g, hg, rfl⟩ | h')
      · rcases Nat.lt_succ_iff_lt_or_eq.mp hg with h' | rfl
        · exact Or.inr (Or.inl ⟨g, h', rfl⟩)
        · exact Or.inl rfl
      · exact Or.inr (Or.inr h')

theorem mem_allPieces (R : Reads F) (p) : ∀ (c : Nat) (h : c ≤ 7),
    p ∈ allPieces R c h ↔ ∃ k, ∃ hk : k < c, ∃ g, ∃ hg : g < 28, p = weightPiece R k g (Nat.lt_of_lt_of_le hk h) hg
  | 0, _ => by simp [allPieces]
  | c + 1, h => by
    rw [allPieces, mem_chunkPieces, mem_allPieces R p c]
    constructor
    · rintro (⟨g, hg, rfl⟩ | ⟨k, hk, g, hg, rfl⟩)
      · exact ⟨c, Nat.lt_succ_self c, g, hg, rfl⟩
      · exact ⟨k, Nat.lt_succ_of_lt hk, g, hg, rfl⟩
    · rintro ⟨k, hk, g, hg, rfl⟩
      rcases Nat.lt_succ_iff_lt_or_eq.mp hk with h' | rfl
      · exact Or.inr ⟨k, h', g, hg, rfl⟩
      · exact Or.inl ⟨g, hg, rfl⟩

/-- A chunk of a block's rows: the residual plus the projection. -/
def rowsOf (a : Vec F S320x3584 .bf16) (w : Vec F S3584x512 .bf16) (x : Vec F S320x512 .bf16) : FVec F S320x512 .bf16 := k0_pay473 a w x

/-- The store of chunk `c` of the rows. -/
def rowPiece (a : Vec F S320x3584 .bf16) (w : ∀ c, c < 7 → Vec F S3584x512 .bf16) (x : ∀ c, c < 7 → Vec F S320x512 .bf16) (c : Nat) (hc : c < 7) : View.Piece (Elt F) S320x3584 .bf16 :=
  ⟨Rect.unit ![0, 512 * c] S320x512.size (inbR hc), rowsOf a (w c hc) (x c hc)⟩

/-- The same rows as 32-bit floats. -/
def rowPiece32 (a : Vec F S320x3584 .bf16) (w : ∀ c, c < 7 → Vec F S3584x512 .bf16) (x : ∀ c, c < 7 → Vec F S320x512 .bf16) (c : Nat) (hc : c < 7) : View.Piece (Elt F) S320x3584 .f32 :=
  ⟨Rect.unit ![0, 512 * c] S320x512.size (inbR hc), shapeCast S320x512 (extf .f32 (rowsOf a (w c hc) (x c hc)) bitsLt_bf16_f32) shapeCasts_S320x512_S320x512⟩

/-- The pieces `p` of the first `n` chunks, last first. -/
def chunks {e : EltTy} (p : ∀ c, c < 7 → View.Piece (Elt F) S320x3584 e) : (n : Nat) → n ≤ 7 → List (View.Piece (Elt F) S320x3584 e)
  | 0, _ => []
  | n + 1, h => p n h :: chunks p n (Nat.le_of_succ_le h)

theorem mem_chunks {e : EltTy} (p : ∀ c, c < 7 → View.Piece (Elt F) S320x3584 e) (q) : ∀ (n : Nat) (h : n ≤ 7),
    q ∈ chunks p n h ↔ ∃ c, ∃ hc : c < n, q = p c (Nat.lt_of_lt_of_le hc h)
  | 0, _ => by simp [chunks]
  | n + 1, h => by
    rw [chunks, List.mem_cons, mem_chunks p q n]
    constructor
    · rintro (rfl | ⟨g, hg, rfl⟩)
      · exact ⟨n, Nat.lt_succ_self n, rfl⟩
      · exact ⟨g, Nat.lt_succ_of_lt hg, rfl⟩
    · rintro ⟨g, hg, rfl⟩
      rcases Nat.lt_succ_iff_lt_or_eq.mp hg with h' | rfl
      · exact Or.inr ⟨g, h', rfl⟩
      · exact Or.inl rfl

/-- Reading a whole block's rectangle is reading its contents there. -/
theorem rd {s : Shape} {e : EltTy} (arg : Memref sig .tc .vmem s e) (h : arg.IsWhole) (x : Vec F s e) (r : Rect s) :
    View.readAt (Elt F) arg.view r.toLoadRect (h.unread x) = View.ld x r := by
  rw [View.readAt_eq_ld, h.read_unread]

variable (c : Dev nD) (i : grid0.Coords) (arg1 : Memref sig .tc .vmem S320x3584 .bf16) (harg1 : arg1.IsWhole) (arg2 : Memref sig .tc .vmem S320x3584 .bf16) (harg2 : arg2.IsWhole) (arg3 : Memref sig .tc .vmem S1x3584 .f32) (harg3 : arg3.IsWhole) (arg4 : Memref sig .tc .vmem S448x3584 .i32) (harg4 : arg4.IsWhole) (arg5 : Memref sig .tc .vmem S28x448 .i32) (harg5 : arg5.IsWhole) (arg6 : Memref sig .tc .vmem S28x3584 .i16) (harg6 : arg6.IsWhole) (arg7 : Memref sig .tc .vmem S320x3584 .bf16) (harg7 : arg7.IsWhole) (arg8 : Memref sig .tc .vmem S320x3584 .bf16) (harg8 : arg8.IsWhole) (arg9 : Memref sig .tc .vmem S3584x3584 .bf16) (harg9 : arg9.IsWhole) (arg10 : Memref sig .tc .vmem S320x3584 .f32) (harg10 : arg10.IsWhole)
  (x0 : Vec F S320x3584 .bf16) (x1 : Vec F S320x3584 .bf16) (x2 : Vec F S1x3584 .f32) (x3 : Vec F S448x3584 .i32) (x4 : Vec F S28x448 .i32) (x5 : Vec F S28x3584 .i16) (xs0 : Vec F S3584x3584 .bf16)

/-- The reads through the staging buffers. -/
def reads : Reads F where
  q c n hc hn := View.readAt (Elt F) arg4.view (Rect.unit (s := S448x3584) ![16 * n, 512 * c] S16x512.size (inbQ hc hn)).toLoadRect (harg4.unread x3)
  z t ht := View.readAt (Elt F) arg5.view (Rect.unit (s := S28x448) ![0, 128 * t] S28x128.size (inbZ ht)).toLoadRect (harg5.unread x4)
  l := View.readAt (Elt F) arg5.view (Rect.unit (s := S28x448) ![0, 384] S28x64.size inbL).toLoadRect (harg5.unread x4)
  s c hc := View.readAt (Elt F) arg6.view (Rect.unit (s := S28x3584) ![0, 512 * c] S28x512.size (inbS hc)).toLoadRect (harg6.unread x5)

/-! The first point's weight stores, chunk by chunk, are the generic ones. -/

set_option maxHeartbeats 2000000 in
theorem HS0_28_eq : kernelRun0_A.sl.HS0_28 (F := F) c arg4 harg4 arg5 harg5 arg6 harg6 x3 x4 x5 = chunkPieces (reads arg4 harg4 arg5 harg5 arg6 harg6 x3 x4 x5) 0 (by omega) [] 28 le_rfl := by rfl

set_option maxHeartbeats 2000000 in
theorem HS0_56_eq : kernelRun0_A.sl.HS0_56 (F := F) c arg4 harg4 arg5 harg5 arg6 harg6 x3 x4 x5 = chunkPieces (reads arg4 harg4 arg5 harg5 arg6 harg6 x3 x4 x5) 1 (by omega) (kernelRun0_A.sl.HS0_28 (F := F) c arg4 harg4 arg5 harg5 arg6 harg6 x3 x4 x5) 28 le_rfl := by rfl

set_option maxHeartbeats 2000000 in
theorem HS0_84_eq : kernelRun0_A.sl.HS0_84 (F := F) c arg4 harg4 arg5 harg5 arg6 harg6 x3 x4 x5 = chunkPieces (reads arg4 harg4 arg5 harg5 arg6 harg6 x3 x4 x5) 2 (by omega) (kernelRun0_A.sl.HS0_56 (F := F) c arg4 harg4 arg5 harg5 arg6 harg6 x3 x4 x5) 28 le_rfl := by rfl

set_option maxHeartbeats 2000000 in
theorem HS0_112_eq : kernelRun0_A.sl.HS0_112 (F := F) c arg4 harg4 arg5 harg5 arg6 harg6 x3 x4 x5 = chunkPieces (reads arg4 harg4 arg5 harg5 arg6 harg6 x3 x4 x5) 3 (by omega) (kernelRun0_A.sl.HS0_84 (F := F) c arg4 harg4 arg5 harg5 arg6 harg6 x3 x4 x5) 28 le_rfl := by rfl

set_option maxHeartbeats 2000000 in
theorem HS0_140_eq : kernelRun0_A.sl.HS0_140 (F := F) c arg4 harg4 arg5 harg5 arg6 harg6 x3 x4 x5 = chunkPieces (reads arg4 harg4 arg5 harg5 arg6 harg6 x3 x4 x5) 4 (by omega) (kernelRun0_A.sl.HS0_112 (F := F) c arg4 harg4 arg5 harg5 arg6 harg6 x3 x4 x5) 28 le_rfl := by rfl

set_option maxHeartbeats 2000000 in
theorem HS0_168_eq : kernelRun0_A.sl.HS0_168 (F := F) c arg4 harg4 arg5 harg5 arg6 harg6 x3 x4 x5 = chunkPieces (reads arg4 harg4 arg5 harg5 arg6 harg6 x3 x4 x5) 5 (by omega) (kernelRun0_A.sl.HS0_140 (F := F) c arg4 harg4 arg5 harg5 arg6 harg6 x3 x4 x5) 28 le_rfl := by rfl

set_option maxHeartbeats 2000000 in
theorem HS0_196_eq : kernelRun0_A.sl.HS0_196 (F := F) c arg4 harg4 arg5 harg5 arg6 harg6 x3 x4 x5 = chunkPieces (reads arg4 harg4 arg5 harg5 arg6 harg6 x3 x4 x5) 6 (by omega) (kernelRun0_A.sl.HS0_168 (F := F) c arg4 harg4 arg5 harg5 arg6 harg6 x3 x4 x5) 28 le_rfl := by rfl

/-- The chunks of weights the first point reads back. -/
def firstW : ∀ k, k < 7 → Vec F S3584x512 .bf16
  | 0, _ => kernelRun0_A.sl.v782 c arg4 harg4 arg5 harg5 arg6 harg6 arg9 x3 x4 x5
  | 1, _ => kernelRun0_A.sl.v1569 c arg4 harg4 arg5 harg5 arg6 harg6 arg9 x3 x4 x5
  | 2, _ => kernelRun0_A.sl.v2356 c arg4 harg4 arg5 harg5 arg6 harg6 arg9 x3 x4 x5
  | 3, _ => kernelRun0_A.sl.v3143 c arg4 harg4 arg5 harg5 arg6 harg6 arg9 x3 x4 x5
  | 4, _ => kernelRun0_A.sl.v3930 c arg4 harg4 arg5 harg5 arg6 harg6 arg9 x3 x4 x5
  | 5, _ => kernelRun0_A.sl.v4717 c arg4 harg4 arg5 harg5 arg6 harg6 arg9 x3 x4 x5
  | 6, _ => kernelRun0_A.sl.v5506 c arg4 harg4 arg5 harg5 arg6 harg6 arg9 x3 x4 x5
  | _ + 7, h => absurd h (by omega)

theorem firstW_eq : ∀ k (hk : k < 7), firstW c arg4 harg4 arg5 harg5 arg6 harg6 arg9 x3 x4 x5 k hk
    = arg9.view.readCov (allPieces (reads arg4 harg4 arg5 harg5 arg6 harg6 x3 x4 x5) (k + 1) hk) (Rect.unit (s := S3584x3584) ![0, 512 * k] S3584x512.size (inbC hk)).toLoadRect := by
  have e1 : kernelRun0_A.sl.HS0_28 (F := F) c arg4 harg4 arg5 harg5 arg6 harg6 x3 x4 x5 = allPieces (reads arg4 harg4 arg5 harg5 arg6 harg6 x3 x4 x5) 1 (by omega) := HS0_28_eq c arg4 harg4 arg5 harg5 arg6 harg6 x3 x4 x5
  have e2 : kernelRun0_A.sl.HS0_56 (F := F) c arg4 harg4 arg5 harg5 arg6 harg6 x3 x4 x5 = allPieces (reads arg4 harg4 arg5 harg5 arg6 harg6 x3 x4 x5) 2 (by omega) := (HS0_56_eq c arg4 harg4 arg5 harg5 arg6 harg6 x3 x4 x5).trans (by rw [e1]; rfl)
  have e3 : kernelRun0_A.sl.HS0_84 (F := F) c arg4 harg4 arg5 harg5 arg6 harg6 x3 x4 x5 = allPieces (reads arg4 harg4 arg5 harg5 arg6 harg6 x3 x4 x5) 3 (by omega) := (HS0_84_eq c arg4 harg4 arg5 harg5 arg6 harg6 x3 x4 x5).trans (by rw [e2]; rfl)
  have e4 : kernelRun0_A.sl.HS0_112 (F := F) c arg4 harg4 arg5 harg5 arg6 harg6 x3 x4 x5 = allPieces (reads arg4 harg4 arg5 harg5 arg6 harg6 x3 x4 x5) 4 (by omega) := (HS0_112_eq c arg4 harg4 arg5 harg5 arg6 harg6 x3 x4 x5).trans (by rw [e3]; rfl)
  have e5 : kernelRun0_A.sl.HS0_140 (F := F) c arg4 harg4 arg5 harg5 arg6 harg6 x3 x4 x5 = allPieces (reads arg4 harg4 arg5 harg5 arg6 harg6 x3 x4 x5) 5 (by omega) := (HS0_140_eq c arg4 harg4 arg5 harg5 arg6 harg6 x3 x4 x5).trans (by rw [e4]; rfl)
  have e6 : kernelRun0_A.sl.HS0_168 (F := F) c arg4 harg4 arg5 harg5 arg6 harg6 x3 x4 x5 = allPieces (reads arg4 harg4 arg5 harg5 arg6 harg6 x3 x4 x5) 6 (by omega) := (HS0_168_eq c arg4 harg4 arg5 harg5 arg6 harg6 x3 x4 x5).trans (by rw [e5]; rfl)
  have e7 : kernelRun0_A.sl.HS0_196 (F := F) c arg4 harg4 arg5 harg5 arg6 harg6 x3 x4 x5 = allPieces (reads arg4 harg4 arg5 harg5 arg6 harg6 x3 x4 x5) 7 (by omega) := (HS0_196_eq c arg4 harg4 arg5 harg5 arg6 harg6 x3 x4 x5).trans (by rw [e6]; rfl)
  intro k hk
  match k with
  | 0 => exact congrArg (fun L => arg9.view.readCov L (Rect.unit (s := S3584x3584) ![0, 512 * 0] S3584x512.size (inbC hk)).toLoadRect) e1
  | 1 => exact congrArg (fun L => arg9.view.readCov L (Rect.unit (s := S3584x3584) ![0, 512 * 1] S3584x512.size (inbC hk)).toLoadRect) e2
  | 2 => exact congrArg (fun L => arg9.view.readCov L (Rect.unit (s := S3584x3584) ![0, 512 * 2] S3584x512.size (inbC hk)).toLoadRect) e3
  | 3 => exact congrArg (fun L => arg9.view.readCov L (Rect.unit (s := S3584x3584) ![0, 512 * 3] S3584x512.size (inbC hk)).toLoadRect) e4
  | 4 => exact congrArg (fun L => arg9.view.readCov L (Rect.unit (s := S3584x3584) ![0, 512 * 4] S3584x512.size (inbC hk)).toLoadRect) e5
  | 5 => exact congrArg (fun L => arg9.view.readCov L (Rect.unit (s := S3584x3584) ![0, 512 * 5] S3584x512.size (inbC hk)).toLoadRect) e6
  | 6 => exact congrArg (fun L => arg9.view.readCov L (Rect.unit (s := S3584x3584) ![0, 512 * 6] S3584x512.size (inbC hk)).toLoadRect) e7
  | _ + 7 => exact absurd hk (by omega)

/-- The residual's chunks as the body reads them. -/
def resid (k : Nat) (hk : k < 7) : Vec F S320x512 .bf16 := View.readAt (Elt F) arg2.view (Rect.unit (s := S320x3584) ![0, 512 * k] S320x512.size (inbR hk)).toLoadRect (harg2.unread x1)

/-- The block of activations as the body reads it. -/
def acts : Vec F S320x3584 .bf16 := View.readAt (Elt F) arg1.view (Rect.unit (s := S320x3584) ![0, 0] S320x3584.size inb_S320x3584_S320x3584_0_0).toLoadRect (harg1.unread x0)

/-- A later point's chunks of weights. -/
def laterW (k : Nat) (hk : k < 7) : Vec F S3584x512 .bf16 := View.readAt (Elt F) arg9.view (Rect.unit (s := S3584x3584) ![0, 512 * k] S3584x512.size (inbC hk)).toLoadRect (harg9.unread xs0)

section A

variable (hc0 : cond0_0 i) (hc1 : ¬cond0_1 i)

/-- The first point's weight stores. -/
theorem A_S0 : (kernelRun0_A (F := F) c i arg1 harg1 arg2 harg2 arg3 harg3 arg4 harg4 arg5 harg5 arg6 harg6 arg7 harg7 arg8 harg8 arg9 harg9 arg10 harg10 hc0 hc1 x0 x1 x2 x3 x4 x5).2.2.1 = kernelRun0_A.sl.HS0_196 (F := F) c arg4 harg4 arg5 harg5 arg6 harg6 x3 x4 x5 := rfl

/-- The first point's stores of the rows. -/
theorem A_6 : (kernelRun0_A (F := F) c i arg1 harg1 arg2 harg2 arg3 harg3 arg4 harg4 arg5 harg5 arg6 harg6 arg7 harg7 arg8 harg8 arg9 harg9 arg10 harg10 hc0 hc1 x0 x1 x2 x3 x4 x5).1
    = chunks (rowPiece (acts arg1 harg1 x0) (firstW c arg4 harg4 arg5 harg5 arg6 harg6 arg9 x3 x4 x5) (resid arg2 harg2 x1)) 7 le_rfl := rfl

/-- The first point's stores of the rows as 32-bit floats. -/
theorem A_S1 : kernelRun0_A.sl.HS1_7 (F := F) c arg1 harg1 arg2 harg2 arg4 harg4 arg5 harg5 arg6 harg6 arg9 x0 x1 x3 x4 x5
    = chunks (rowPiece32 (acts arg1 harg1 x0) (firstW c arg4 harg4 arg5 harg5 arg6 harg6 arg9 x3 x4 x5) (resid arg2 harg2 x1)) 7 le_rfl := rfl

/-- The first point's store of the normalised rows. -/
theorem A_7 : (kernelRun0_A (F := F) c i arg1 harg1 arg2 harg2 arg3 harg3 arg4 harg4 arg5 harg5 arg6 harg6 arg7 harg7 arg8 harg8 arg9 harg9 arg10 harg10 hc0 hc1 x0 x1 x2 x3 x4 x5).2.1
    = [⟨Rect.unit ![0, 0] S320x3584.size inb_S320x3584_S320x3584_0_0,
        k0_pay2 (arg10.view.readCov (kernelRun0_A.sl.HS1_7 (F := F) c arg1 harg1 arg2 harg2 arg4 harg4 arg5 harg5 arg6 harg6 arg9 x0 x1 x3 x4 x5) (Rect.unit (s := S320x3584) ![0, 0] S320x3584.size inb_S320x3584_S320x3584_0_0).toLoadRect)
          (View.readAt (Elt F) arg3.view (Rect.unit (s := S1x3584) ![0, 0] S1x3584.size inb_S1x3584_S1x3584_0_0).toLoadRect (harg3.unread x2))⟩] := rfl

end A

section B

variable (hc0 : ¬cond0_0 i) (hc1 : cond0_1 i)

/-- A later point's stores of the rows. -/
theorem B_6 : (kernelRun0_B (F := F) c i arg1 harg1 arg2 harg2 arg3 harg3 arg4 harg4 arg5 harg5 arg6 harg6 arg7 harg7 arg8 harg8 arg9 harg9 arg10 harg10 hc0 hc1 x0 x1 x2 x3 x4 x5 xs0).1
    = chunks (rowPiece (acts arg1 harg1 x0) (laterW arg9 harg9 xs0) (resid arg2 harg2 x1)) 7 le_rfl := rfl

/-- A later point's stores of the rows as 32-bit floats. -/
theorem B_S1 : kernelRun0_B.sl.HS1_7 (F := F) c arg1 harg1 arg2 harg2 arg9 harg9 x0 x1 xs0
    = chunks (rowPiece32 (acts arg1 harg1 x0) (laterW arg9 harg9 xs0) (resid arg2 harg2 x1)) 7 le_rfl := rfl

/-- A later point's store of the normalised rows. -/
theorem B_7 : (kernelRun0_B (F := F) c i arg1 harg1 arg2 harg2 arg3 harg3 arg4 harg4 arg5 harg5 arg6 harg6 arg7 harg7 arg8 harg8 arg9 harg9 arg10 harg10 hc0 hc1 x0 x1 x2 x3 x4 x5 xs0).2.1
    = [⟨Rect.unit ![0, 0] S320x3584.size inb_S320x3584_S320x3584_0_0,
        k0_pay2 (arg10.view.readCov (kernelRun0_B.sl.HS1_7 (F := F) c arg1 harg1 arg2 harg2 arg9 harg9 x0 x1 xs0) (Rect.unit (s := S320x3584) ![0, 0] S320x3584.size inb_S320x3584_S320x3584_0_0).toLoadRect)
          (View.readAt (Elt F) arg3.view (Rect.unit (s := S1x3584) ![0, 0] S1x3584.size inb_S1x3584_S1x3584_0_0).toLoadRect (harg3.unread x2))⟩] := rfl

end B

end Cert.OprojIdeal.Hand

end
-- ==== Proof.OIdeal.Formula.lean ====
/-
  The output projection's two results as formulas of its arguments: the residual plus the projection, and that row
  divided by its root mean square.
-/
module

public import proofs.«01_k».proof.Proof.KIdeal.Half
public import proofs.«01_k».proof.Proof.KIdeal.Block

@[expose] public section

noncomputable section

namespace Cert.Oproj.Formula

open Idealize.ShloMosaic
open Cert.KernelIdeal.Hand (weight)
open scoped BigOperators

/-- A matrix of `R` rows and `C` columns of reals. -/
abbrev Mat (R C : Nat) : Type := Shape.Idx ⟨2, ![R, C]⟩ → EReal

/-- The weight at input row `k` and column `n`, from the packed weights, the packed zero points and the scales. -/
def projW (q : Shape.Idx ⟨2, ![448, 3584]⟩ → BitVec 32) (z : Shape.Idx ⟨2, ![28, 448]⟩ → BitVec 32) (s : Mat 28 3584) (k n : Fin 3584) : EReal :=
  weight (q (ValueIdx.ix2 ⟨k.val / 8, by have := k.isLt; omega⟩ n))
    (z (ValueIdx.ix2 ⟨k.val / 128, by have := k.isLt; omega⟩ ⟨n.val / 8, by have := n.isLt; omega⟩))
    (s (ValueIdx.ix2 ⟨k.val / 128, by have := k.isLt; omega⟩ n)) (k.val % 8) (n.val % 8)

/-- The residual plus the projection of a row of `R` rows. -/
def hidden {R : Nat} (a x : Mat R 3584) (W : Fin 3584 → Fin 3584 → EReal) : Mat R 3584 :=
  fun y => x y + ∑ k, a (ValueIdx.ix2 (y 0) k) * W k (y 1)

/-- Each row divided by its root mean square (a small constant added under the root), times a weight per column. -/
def normed {R : Nat} (h : Mat R 3584) (w : Fin 3584 → EReal) : Mat R 3584 :=
  fun y => h y * Ideal.rsqrt (Ideal.div (∑ k, h (ValueIdx.ix2 (y 0) k) * h (ValueIdx.ix2 (y 0) k)) (Ideal.ofBits .f32 0x45600000#32) + Ideal.ofBits .f32 0x3727C5AC#32) * w (y 1)

end Cert.Oproj.Formula

end
-- ==== Proof.OIdeal.Weights.lean ====
/-
  The output projection's dequantised weights at an index, the rows of a block over them and the rows normalised.
-/
module

public import proofs.«01_k».proof.Proof.OIdeal.Pieces
public import proofs.«01_k».proof.Proof.OIdeal.Formula
public import Idealize.ShloMosaic.Lib.Pipeline.ValueKit
public import Idealize.ShloMosaic.Lib.Pipeline.Value
public import Idealize.ShloMosaic.Lib.Pointwise
public import Idealize.ShloMosaic.Lib.MatmulPlain

@[expose] public section

set_option maxRecDepth 16384

noncomputable section

namespace Cert.OprojIdeal.Hand

open Cert.OprojIdeal Cert.OprojIdeal.Gen
open Cert.KernelIdeal.Hand (nib nib_of nibbleShift weight halfVal gather_apply)
open Cert.Oproj.Formula
open Idealize.ShloMosaic Idealize.ShloMosaic.TcCoe Idealize.ShloMosaic.Tactic
open scoped BigOperators

variable {F : FTy → Type} [FloatOps F]

/-- The packed words of one group, spread over its 128 rows. -/
def spread (q : Vec F S16x512 .i32) : IVec S128x512 32 :=
  shapeCast S128x512 (andi (shrui
      (broadcastTo S16x8x512 (shapeCast S16x1x512 (shapeCast S16x1x512 q shapeCasts_S16x512_S16x1x512) shapeCasts_S16x1x512_S16x1x512) broadcasts_S16x1x512_S16x8x512)
      (muli (iota .tc S16x8x512 32 [1] iota_S16x8x512_d1_w32) (broadcast S16x8x512 4#32))) (broadcast S16x8x512 15#32)) shapeCasts_S16x8x512_S128x512

theorem spread_apply (q : Vec F S16x512 .i32) (j : S128x512.Idx) (kq : S16x512.Idx) (hq0 : (kq 0).val = (j 0).val / 8) (hq1 : (kq 1).val = (j 1).val) :
    spread (F := F) q j = nib (q kq) ((j 0).val % 8) := by
  have hj0 : (j 0).val < 128 := (j 0).isLt
  have hj1 : (j 1).val < 512 := (j 1).isLt
  let k3 : S16x8x512.Idx := fun a => match a with | ⟨0, _⟩ => ⟨(j 0).val / 8, by show _ < 16; omega⟩ | ⟨1, _⟩ => ⟨(j 0).val % 8, by show _ < 8; omega⟩ | ⟨2, _⟩ => ⟨(j 1).val, hj1⟩
  let k1 : S16x1x512.Idx := fun a => match a with | ⟨0, _⟩ => ⟨(j 0).val / 8, by show _ < 16; omega⟩ | ⟨1, _⟩ => ⟨0, Nat.one_pos⟩ | ⟨2, _⟩ => ⟨(j 1).val, hj1⟩
  unfold spread
  rw [shapeCast_apply _ shapeCasts_S16x8x512_S128x512 j k3
    (by rw [Shape.rowMajor_val_two, Shape.rowMajor_val_three]
        show ((j 0).val / 8 * 8 + (j 0).val % 8) * 512 + (j 1).val = (j 0).val * 512 + (j 1).val
        omega)]
  refine (nib_of .vector _ _ ((j 0).val % 8) (by omega) ?_).trans ?_
  · show BitVec.ofNat 32 (0 * 8 + (j 0).val % 8) * BitVec.ofNat 32 4 = _
    rw [← BitVec.ofNat_mul]
    congr 1; omega
  · rw [broadcastTo_apply _ broadcasts_S16x1x512_S16x8x512 k3 k1
      (fun a => match a with | ⟨0, _⟩ => rfl | ⟨1, _⟩ => rfl | ⟨2, _⟩ => rfl),
      shapeCast_apply _ shapeCasts_S16x1x512_S16x1x512 k1 k1 rfl,
      shapeCast_apply _ shapeCasts_S16x512_S16x1x512 k1 kq (by
        rw [Shape.rowMajor_val_two, Shape.rowMajor_val_three]
        show (kq 0).val * 512 + (kq 1).val = ((j 0).val / 8 * 1 + 0) * 512 + (j 1).val
        omega)]

theorem row_apply {φ : FTy} (X : FVec F S28x512 φ) (g : Nat) (h : S28x512.Slices ![g, 0] S1x512) (j : S128x512.Idx)
    (kz : S28x512.Idx) (hz0 : (kz 0).val = g) (hz1 : (kz 1).val = (j 1).val) :
    broadcastTo S128x512 (extractStridedSlice S1x512 ![g, 0] X h) broadcasts_S1x512_S128x512 j = X kz := by
  have hj1 : (j 1).val < 512 := (j 1).isLt
  let k : S1x512.Idx := fun a => match a with | ⟨0, _⟩ => ⟨0, Nat.one_pos⟩ | ⟨1, _⟩ => ⟨(j 1).val, hj1⟩
  rw [broadcastTo_apply _ broadcasts_S1x512_S128x512 j k (fun a => match a with | ⟨0, _⟩ => rfl | ⟨1, _⟩ => rfl)]
  exact extractStridedSlice_apply _ _ _ _ kz (fun a => match a with
      | ⟨0, _⟩ => by show (kz 0).val = g + 0; omega
      | ⟨1, _⟩ => by show (kz 1).val = 0 + (j 1).val; omega)

/-- One group's weights at an index. -/
theorem groupW_apply (Z S : FVec Ideal S28x512 .f32) (g : Nat) (h : S28x512.Slices ![g, 0] S1x512) (q : Vec Ideal S16x512 .i32) (j : S128x512.Idx)
    (kq : S16x512.Idx) (hq0 : (kq 0).val = (j 0).val / 8) (hq1 : (kq 1).val = (j 1).val)
    (kz : S28x512.Idx) (hz0 : (kz 0).val = g) (hz1 : (kz 1).val = (j 1).val) :
    groupW (F := Ideal) Z S ![g, 0] h q j
      = ((((nib (q kq) ((j 0).val % 8)).toInt : ℝ) : EReal) - Z kz) * S kz := by
  have hw := spread_apply (F := Ideal) q j kq hq0 hq1
  have hz := row_apply (F := Ideal) Z g h j kz hz0 hz1
  have hs := row_apply (F := Ideal) S g h j kz hz0 hz1
  rw [← hw, ← hz, ← hs]
  unfold groupW
  rw [shapeCast_apply _ shapeCasts_S128x512_S128x512 j j rfl]
  rfl

/-- The lane of the word that holds the zero point of lane `l` of the columns whose first word is lane `b`. -/
def gatherLane (b l : Nat) : BitVec 32 :=
  let x : BitVec 32 := IntOp.addi (IntOp.shrsi .vector (BitVec.ofNat 32 l) 3#32) (BitVec.ofNat 32 b)
  if IntOp.cmpi .slt x 0#32 = 1 then IntOp.addi x 128#32 else x

theorem gatherLane_eq : ∀ b < 113, ∀ l < 128, (gatherLane b l).toNat = b + l / 8 := by
  decide +kernel

/-- The zero points of 128 columns at an index. -/
theorem lanes_apply (z : IVec S28x128 32) (b : Nat) (hb : b < 113) (j kz : S28x128.Idx) (hz0 : (kz 0).val = (j 0).val) (hz1 : (kz 1).val = b + (j 1).val / 8) :
    lanes (F := Ideal) z (BitVec.ofNat 32 b) j = (((nib (z kz) ((j 1).val % 8)).toInt : ℝ) : EReal) := by
  have hj1 : (j 1).val < 128 := (j 1).isLt
  have hsh := nibbleShift (0 * 128 + (j 1).val) (by omega)
  rw [show (0 * 128 + (j 1).val) % 8 = (j 1).val % 8 by omega] at hsh
  rw [← nib_of .vector (z kz) _ ((j 1).val % 8) (by omega) hsh]
  rw [← gather_apply (F := Ideal) z (fun j => gatherLane b (0 * 128 + (j 1).val)) j kz hz0
    (hz1.trans (by show _ = (gatherLane b (0 * 128 + (j 1).val)).toNat; rw [gatherLane_eq b hb _ (by omega)]; omega))]
  rfl

/-- The zero points of 512 columns at an index. -/
theorem zerosOf_apply (z : IVec S28x128 32) (b : Nat) (hb : b < 65) (j : S28x512.Idx) (kz : S28x128.Idx) (hz0 : (kz 0).val = (j 0).val) (hz1 : (kz 1).val = b + (j 1).val / 8) :
    zerosOf (F := Ideal) z b j = (((nib (z kz) ((j 1).val % 8)).toInt : ℝ) : EReal) := by
  have hj0 : (j 0).val < 28 := (j 0).isLt
  have hj1 : (j 1).val < 512 := (j 1).isLt
  have main : ∀ (p : Nat) (hp : p < 4) (hj : (j 1).val / 128 = p),
      lanes (F := Ideal) z (BitVec.ofNat 32 (b + 16 * p)) (ValueIdx.ix2 (⟨(j 0).val, hj0⟩ : Fin 28) (⟨(j 1).val - 128 * p, by omega⟩ : Fin 128))
        = (((nib (z kz) ((j 1).val % 8)).toInt : ℝ) : EReal) := by
    intro p hp hj
    refine (lanes_apply z (b + 16 * p) (by omega) _ kz hz0 ?_).trans ?_
    · show (kz 1).val = b + 16 * p + ((j 1).val - 128 * p) / 8; omega
    · show (((nib (z kz) (((j 1).val - 128 * p) % 8)).toInt : ℝ) : EReal) = _
      rw [show ((j 1).val - 128 * p) % 8 = (j 1).val % 8 by omega]
  have piece : ∀ (p : Nat) (hp : p < 4) (hj : (j 1).val / 128 = p),
      zerosOf (F := Ideal) z b j = lanes (F := Ideal) z (BitVec.ofNat 32 (b + 16 * p)) (ValueIdx.ix2 (⟨(j 0).val, hj0⟩ : Fin 28) (⟨(j 1).val - 128 * p, by omega⟩ : Fin 128)) := by
    intro p hp hj
    have hb' : ∀ bb : Fin S28x512.rank, bb ≠ 1 → bb = 0 := by decide
    unfold zerosOf
    match p, hp with
    | 0, _ =>
      refine concatenate_apply_piece (1 : Fin S28x512.rank) [⟨S28x128, lanes z (BitVec.ofNat 32 (b + 16 * 0))⟩, ⟨S28x128, lanes z (BitVec.ofNat 32 (b + 16 * 1))⟩,
        ⟨S28x128, lanes z (BitVec.ofNat 32 (b + 16 * 2))⟩, ⟨S28x128, lanes z (BitVec.ofNat 32 (b + 16 * 3))⟩] concatenates_S28x128_S28x128_S28x128_S28x128_S28x512_d1 j 0 (show 0 < 4 by omega) S28x128 _ rfl rfl (128 * 0) rfl
        (ValueIdx.ix2 (⟨(j 0).val, hj0⟩ : Fin 28) (⟨(j 1).val - 128 * 0, by omega⟩ : Fin 128)) ?_ ?_
      · intro bb hbb
        match bb with
        | ⟨0, _⟩ => rfl
        | ⟨1, _⟩ => exact absurd rfl hbb
      · show 128 * 0 + ((j 1).val - 128 * 0) = (j 1).val; omega
    | 1, _ =>
      refine concatenate_apply_piece (1 : Fin S28x512.rank) [⟨S28x128, lanes z (BitVec.ofNat 32 (b + 16 * 0))⟩, ⟨S28x128, lanes z (BitVec.ofNat 32 (b + 16 * 1))⟩,
        ⟨S28x128, lanes z (BitVec.ofNat 32 (b + 16 * 2))⟩, ⟨S28x128, lanes z (BitVec.ofNat 32 (b + 16 * 3))⟩] concatenates_S28x128_S28x128_S28x128_S28x128_S28x512_d1 j 1 (show 1 < 4 by omega) S28x128 _ rfl rfl (128 * 1) rfl
        (ValueIdx.ix2 (⟨(j 0).val, hj0⟩ : Fin 28) (⟨(j 1).val - 128 * 1, by omega⟩ : Fin 128)) ?_ ?_
      · intro bb hbb
        match bb with
        | ⟨0, _⟩ => rfl
        | ⟨1, _⟩ => exact absurd rfl hbb
      · show 128 * 1 + ((j 1).val - 128 * 1) = (j 1).val; omega
    | 2, _ =>
      refine concatenate_apply_piece (1 : Fin S28x512.rank) [⟨S28x128, lanes z (BitVec.ofNat 32 (b + 16 * 0))⟩, ⟨S28x128, lanes z (BitVec.ofNat 32 (b + 16 * 1))⟩,
        ⟨S28x128, lanes z (BitVec.ofNat 32 (b + 16 * 2))⟩, ⟨S28x128, lanes z (BitVec.ofNat 32 (b + 16 * 3))⟩] concatenates_S28x128_S28x128_S28x128_S28x128_S28x512_d1 j 2 (show 2 < 4 by omega) S28x128 _ rfl rfl (128 * 2) rfl
        (ValueIdx.ix2 (⟨(j 0).val, hj0⟩ : Fin 28) (⟨(j 1).val - 128 * 2, by omega⟩ : Fin 128)) ?_ ?_
      · intro bb hbb
        match bb with
        | ⟨0, _⟩ => rfl
        | ⟨1, _⟩ => exact absurd rfl hbb
      · show 128 * 2 + ((j 1).val - 128 * 2) = (j 1).val; omega
    | 3, _ =>
      refine concatenate_apply_piece (1 : Fin S28x512.rank) [⟨S28x128, lanes z (BitVec.ofNat 32 (b + 16 * 0))⟩, ⟨S28x128, lanes z (BitVec.ofNat 32 (b + 16 * 1))⟩,
        ⟨S28x128, lanes z (BitVec.ofNat 32 (b + 16 * 2))⟩, ⟨S28x128, lanes z (BitVec.ofNat 32 (b + 16 * 3))⟩] concatenates_S28x128_S28x128_S28x128_S28x128_S28x512_d1 j 3 (show 3 < 4 by omega) S28x128 _ rfl rfl (128 * 3) rfl
        (ValueIdx.ix2 (⟨(j 0).val, hj0⟩ : Fin 28) (⟨(j 1).val - 128 * 3, by omega⟩ : Fin 128)) ?_ ?_
      · intro bb hbb
        match bb with
        | ⟨0, _⟩ => rfl
        | ⟨1, _⟩ => exact absurd rfl hbb
      · show 128 * 3 + ((j 1).val - 128 * 3) = (j 1).val; omega
  exact (piece _ (by omega) rfl).trans (main _ (by omega) rfl)

theorem scales_apply (s : Vec Ideal S28x512 .i16) (j : S28x512.Idx) : scalesOf (F := Ideal) s j = halfVal (s j) := by
  have h13 : ∀ m : BitVec 32, IntOp.shli .vector m 13#32 = m <<< 13#32 := fun m => if_pos (by decide)
  unfold halfVal
  simp only [← h13]
  rfl

/-- The matrix of weights from the packed words, the packed zero points and the scales' bits. -/
abbrev bitsW (x3 : Vec Ideal S448x3584 .i32) (x4 : Vec Ideal S28x448 .i32) (x5 : Vec Ideal S28x3584 .i16) : Fin 3584 → Fin 3584 → EReal :=
  projW x3 x4 (fun j => halfVal (x5 j))

/-- The reads `R` are those of whole arrays. -/
structure Reads.Of (R : Reads Ideal) (x3 : Vec Ideal S448x3584 .i32) (x4 : Vec Ideal S28x448 .i32) (x5 : Vec Ideal S28x3584 .i16) : Prop where
  q : ∀ c n hc hn, R.q c n hc hn = View.ld x3 (Rect.unit (s := S448x3584) ![16 * n, 512 * c] S16x512.size (inbQ hc hn))
  z : ∀ t ht, R.z t ht = View.ld x4 (Rect.unit (s := S28x448) ![0, 128 * t] S28x128.size (inbZ ht))
  l : R.l = View.ld x4 (Rect.unit (s := S28x448) ![0, 384] S28x64.size inbL)
  s : ∀ c hc, R.s c hc = View.ld x5 (Rect.unit (s := S28x3584) ![0, 512 * c] S28x512.size (inbS hc))

section

variable {R : Reads Ideal} {x3 : Vec Ideal S448x3584 .i32} {x4 : Vec Ideal S28x448 .i32} {x5 : Vec Ideal S28x3584 .i16} (H : R.Of x3 x4 x5)
include H

/-- A chunk's words of zero points are the array's. -/
theorem words_apply (c : Nat) (hc : c < 7) (k : S28x128.Idx) (y : S28x448.Idx) (h0 : (y 0).val = (k 0).val) (h1 : (y 1).val = 128 * (c / 2) + (k 1).val) :
    words R c k = x4 y := by
  have hk0 : (k 0).val < 28 := (k 0).isLt
  have hy1 : (y 1).val < 448 := (y 1).isLt
  unfold words
  by_cases h : c / 2 < 3
  · rw [dif_pos h, H.z]
    exact View.ld_unit_apply_of x4 _ _ _ _ _ (fun a => match a with
      | ⟨0, _⟩ => by show (y 0).val = 0 + (k 0).val; omega
      | ⟨1, _⟩ => by show (y 1).val = 128 * (c / 2) + (k 1).val; omega)
  · rw [dif_neg h, H.l]
    have hk1 : (k 1).val < 64 := by omega
    unfold lastWords
    refine (concatenate_apply_piece (1 : Fin S28x128.rank) [⟨S28x64, View.ld x4 (Rect.unit (s := S28x448) ![0, 384] S28x64.size inbL)⟩, ⟨S28x64, broadcast S28x64 0#32⟩]
      concatenates_S28x64_S28x64_S28x128_d1 k 0 (show 0 < 2 by omega) S28x64 _ rfl rfl 0 rfl (ValueIdx.ix2 (⟨(k 0).val, hk0⟩ : Fin 28) (⟨(k 1).val, hk1⟩ : Fin 64)) ?_ ?_).trans ?_
    · intro bb hbb
      match bb with
      | ⟨0, _⟩ => rfl
      | ⟨1, _⟩ => exact absurd rfl hbb
    · show 0 + (k 1).val = (k 1).val; omega
    · exact View.ld_unit_apply_of x4 _ _ _ _ _ (fun a => match a with
        | ⟨0, _⟩ => by show (y 0).val = 0 + (k 0).val; omega
        | ⟨1, _⟩ => by show (y 1).val = 384 + (k 1).val; omega)

/-- One group's store at an index is the matrix's weight there. -/
theorem group_weight (c g : Nat) (hc : c < 7) (hg : g < 28) (x : S128x512.Idx) (r n : Fin 3584) (e0 : r.val = 128 * g + (x 0).val) (e1 : n.val = 512 * c + (x 1).val) :
    groupW (F := Ideal) (zerosOf (words R c) (c % 2 * 64)) (scalesOf (R.s c hc)) ![g, 0] (slicesG hg) (R.q c g hc hg) x = bitsW x3 x4 x5 r n := by
  have hx0 : (x 0).val < 128 := (x 0).isLt
  have hx1 : (x 1).val < 512 := (x 1).isLt
  have hr3 : r.val < 3584 := r.isLt
  have hn3 : n.val < 3584 := n.isLt
  have hr : r.val / 128 = g := by omega
  have hm : r.val % 8 = (x 0).val % 8 := by omega
  have hb : n.val % 8 = (x 1).val % 8 := by omega
  rw [groupW_apply (zerosOf (words R c) (c % 2 * 64)) (scalesOf (R.s c hc)) g (slicesG hg) _ x (ValueIdx.ix2 (⟨(x 0).val / 8, by omega⟩ : Fin 16) (⟨(x 1).val, hx1⟩ : Fin 512)) rfl rfl
      (ValueIdx.ix2 (⟨r.val / 128, by omega⟩ : Fin 28) (⟨(x 1).val, hx1⟩ : Fin 512)) hr rfl,
    zerosOf_apply _ (c % 2 * 64) (by omega) _ (ValueIdx.ix2 (⟨r.val / 128, by omega⟩ : Fin 28) (⟨c % 2 * 64 + (x 1).val / 8, by omega⟩ : Fin 128)) rfl rfl, scales_apply,
    words_apply H c hc _ (ValueIdx.ix2 (⟨r.val / 128, by omega⟩ : Fin 28) (⟨n.val / 8, by omega⟩ : Fin 448)) rfl
      (by show n.val / 8 = 128 * (c / 2) + (c % 2 * 64 + (x 1).val / 8); omega), H.q, H.s]
  have hq : View.ld x3 (Rect.unit (s := S448x3584) ![16 * g, 512 * c] S16x512.size (inbQ hc hg)) (ValueIdx.ix2 (⟨(x 0).val / 8, by omega⟩ : Fin 16) (⟨(x 1).val, hx1⟩ : Fin 512))
      = x3 (ValueIdx.ix2 ⟨r.val / 8, by omega⟩ n) :=
    View.ld_unit_apply_of x3 _ _ _ _ _ (fun a => match a with
      | ⟨0, _⟩ => by show r.val / 8 = 16 * g + (x 0).val / 8; omega
      | ⟨1, _⟩ => by show n.val = 512 * c + (x 1).val; omega)
  have hs : View.ld x5 (Rect.unit (s := S28x3584) ![0, 512 * c] S28x512.size (inbS hc)) (ValueIdx.ix2 (⟨r.val / 128, by omega⟩ : Fin 28) (⟨(x 1).val, hx1⟩ : Fin 512))
      = x5 (ValueIdx.ix2 ⟨r.val / 128, by omega⟩ n) :=
    View.ld_unit_apply_of x5 _ _ _ _ _ (fun a => match a with
      | ⟨0, _⟩ => by show r.val / 128 = 0 + r.val / 128; omega
      | ⟨1, _⟩ => by show n.val = 512 * c + (x 1).val; omega)
  rw [hq, hs, ← hm]
  show _ * _ = weight _ _ _ _ _
  unfold weight
  rw [hb]

/-- What the first `c` chunks' stores leave, at a column of theirs, is the matrix's weight. -/
theorem canon_all (c : Nat) (hc : c ≤ 7) (y : S3584x3584.Idx) (hy : (y 1).val < 512 * c) :
    View.canon (allPieces R c hc) y = bitsW x3 x4 x5 (y 0) (y 1) := by
  have hy0 : (y 0).val < 3584 := (y 0).isLt
  refine View.canon_apply_of_pieces (Val := Elt Ideal) (e := .bf16) (fun j => bitsW x3 x4 x5 (j 0) (j 1) : Vec Ideal S3584x3584 .bf16) _ ?_ y ?_
  · intro p hp x
    obtain ⟨k, hk, g, hg, rfl⟩ := (mem_allPieces R p c hc).1 hp
    have hx0 : (x 0).val < 128 := (x 0).isLt
    have hx1 : (x 1).val < 512 := (x 1).isLt
    refine group_weight H k g (by omega) hg x _ _ ?_ ?_
    · show 128 * g + 1 * (x 0).val = _; omega
    · show 512 * k + 1 * (x 1).val = _; omega
  · refine ⟨weightPiece R ((y 1).val / 512) ((y 0).val / 128) (by omega) (by omega), (mem_allPieces R _ c hc).2 ⟨(y 1).val / 512, by omega, (y 0).val / 128, by omega, rfl⟩, ?_⟩
    show y ∈ (Rect.unit (s := S3584x3584) ![128 * ((y 0).val / 128), 512 * ((y 1).val / 512)] S128x512.size (inbG (by omega) (by omega))).set
    rw [Rect.mem_set_unit]
    intro a
    match a with
    | ⟨0, _⟩ => show 128 * ((y 0).val / 128) ≤ (y 0).val ∧ (y 0).val < 128 * ((y 0).val / 128) + 128; omega
    | ⟨1, _⟩ => show 512 * ((y 1).val / 512) ≤ (y 1).val ∧ (y 1).val < 512 * ((y 1).val / 512) + 512; omega

end

/-- A chunk of rows at an index. -/
theorem rowsOf_apply (a : Vec Ideal S320x3584 .bf16) (w : Vec Ideal S3584x512 .bf16) (x : Vec Ideal S320x512 .bf16) (r : Fin 320) (n : Fin 512) :
    rowsOf (F := Ideal) a w x (ValueIdx.ix2 r n) = ((x (ValueIdx.ix2 r n) : EReal) + ∑ k : Fin 3584, (a (ValueIdx.ix2 r k) : EReal) * w (ValueIdx.ix2 k n) : EReal) := by
  have hm : (matmul (F := Ideal) (φ₁ := .bf16) (φ₂ := .bf16) dot_S320x3584_S3584x512_S320x512_1_0_0_1_n_n none (a : FVec Ideal S320x3584 .bf16) (w : FVec Ideal S3584x512 .bf16) (constant S320x512 .f32 0x00000000#32) : FVec Ideal S320x512 .f32) (ValueIdx.ix2 r n)
        = (∑ k : Fin 3584, (a (ValueIdx.ix2 r k) : EReal) * w (ValueIdx.ix2 k n) : EReal) := by
    refine (Ideal.matmul_plain_apply (φ₁ := .bf16) (φ₂ := .bf16) none a w (constant S320x512 .f32 0x00000000#32) r n).trans ?_
    show Ideal.ofBits .f32 0x00000000#32 + _ = _
    rw [Ideal.ofBits_zero_f32, zero_add]
  rw [← hm]
  rfl

/-- Every index of a block lies in its column's chunk. -/
theorem covered (y : S320x3584.Idx) : y ∈ (Rect.unit (s := S320x3584) ![0, 512 * ((y 1).val / 512)] S320x512.size (inbR (by have : (y 1).val < 3584 := (y 1).isLt; omega))).set := by
  have hy0 : (y 0).val < 320 := (y 0).isLt
  have hy1 : (y 1).val < 3584 := (y 1).isLt
  rw [Rect.mem_set_unit]
  intro a
  match a with
  | ⟨0, _⟩ => show 0 ≤ (y 0).val ∧ (y 0).val < 0 + 320; omega
  | ⟨1, _⟩ => show 512 * ((y 1).val / 512) ≤ (y 1).val ∧ (y 1).val < 512 * ((y 1).val / 512) + 512; omega

/-- A chunk's column is a column. -/
theorem colLt {c : Nat} (hc : c < 7) (l : Fin 512) : 512 * c + l.val < 3584 := by have := l.isLt; omega

section

variable (a x : Vec Ideal S320x3584 .bf16) (w : ∀ c, c < 7 → Vec Ideal S3584x512 .bf16) (W : Fin 3584 → Fin 3584 → EReal)
  (hw : ∀ c hc (k : Fin 3584) (l : Fin 512), w c hc (ValueIdx.ix2 k l) = W k ⟨512 * c + l.val, colLt hc l⟩)
include hw

/-- A chunk's store at an index is the block's row there. -/
theorem piece_row (c : Nat) (hc : c < 7) (z : S320x512.Idx) :
    rowsOf (F := Ideal) a (w c hc) (View.ld x (Rect.unit (s := S320x3584) ![0, 512 * c] S320x512.size (inbR hc))) z
      = hidden a x W ((Rect.unit (s := S320x3584) ![0, 512 * c] S320x512.size (inbR hc)).emb z) := by
  have h0 : (z 0).val < 320 := (z 0).isLt
  have h1 : (z 1).val < 512 := (z 1).isLt
  have e : (Rect.unit (s := S320x3584) ![0, 512 * c] S320x512.size (inbR hc)).emb z = ValueIdx.ix2 (⟨(z 0).val, h0⟩ : Fin 320) (⟨512 * c + (z 1).val, by omega⟩ : Fin 3584) :=
    funext fun b => Fin.ext (match b with
      | ⟨0, _⟩ => by show 0 + 1 * (z 0).val = (z 0).val; omega
      | ⟨1, _⟩ => by show 512 * c + 1 * (z 1).val = 512 * c + (z 1).val; omega)
  have ez : z = ValueIdx.ix2 (⟨(z 0).val, h0⟩ : Fin 320) (⟨(z 1).val, h1⟩ : Fin 512) := funext fun b => match b with | ⟨0, _⟩ => rfl | ⟨1, _⟩ => rfl
  rw [e]
  refine (congrArg _ ez).trans ((rowsOf_apply a _ _ _ _).trans ?_)
  simp only [hw]
  refine congrArg (fun v : EReal => v + _) ?_
  exact View.ld_unit_apply_of x _ _ _ _ _ (fun b => match b with
      | ⟨0, _⟩ => by show (z 0).val = 0 + (z 0).val; omega
      | ⟨1, _⟩ => rfl)

/-- What the seven chunks' stores leave is the block's rows. -/
theorem canon_rows : View.canon (chunks (rowPiece (F := Ideal) a w (fun c hc => View.ld x (Rect.unit (s := S320x3584) ![0, 512 * c] S320x512.size (inbR hc)))) 7 le_rfl)
    = (hidden a x W : Vec Ideal S320x3584 .bf16) := by
  funext y
  have hy1 : (y 1).val < 3584 := (y 1).isLt
  refine View.canon_apply_of_pieces (Val := Elt Ideal) (e := .bf16) (hidden a x W : Vec Ideal S320x3584 .bf16) _ ?_ y ?_
  · intro p hp z
    obtain ⟨c, hc, rfl⟩ := (mem_chunks _ p 7 le_rfl).1 hp
    exact piece_row a x w W hw c hc z
  · exact ⟨_, (mem_chunks _ _ 7 le_rfl).2 ⟨(y 1).val / 512, by omega, rfl⟩, covered y⟩

/-- The same of the 32-bit stores. -/
theorem canon_rows32 : View.canon (chunks (rowPiece32 (F := Ideal) a w (fun c hc => View.ld x (Rect.unit (s := S320x3584) ![0, 512 * c] S320x512.size (inbR hc)))) 7 le_rfl)
    = (hidden a x W : Vec Ideal S320x3584 .f32) := by
  funext y
  have hy1 : (y 1).val < 3584 := (y 1).isLt
  refine View.canon_apply_of_pieces (Val := Elt Ideal) (e := .f32) (hidden a x W : Vec Ideal S320x3584 .f32) _ ?_ y ?_
  · intro p hp z
    obtain ⟨c, hc, rfl⟩ := (mem_chunks _ p 7 le_rfl).1 hp
    refine Eq.trans ?_ (piece_row a x w W hw c hc z)
    show shapeCast S320x512 (extf .f32 (rowsOf (F := Ideal) a (w c hc) (View.ld x (Rect.unit (s := S320x3584) ![0, 512 * c] S320x512.size (inbR hc)))) bitsLt_bf16_f32) shapeCasts_S320x512_S320x512 z = _
    rw [shapeCast_apply _ shapeCasts_S320x512_S320x512 z z rfl]
    rfl
  · exact ⟨_, (mem_chunks _ _ 7 le_rfl).2 ⟨(y 1).val / 512, by omega, rfl⟩, covered y⟩

end

/-- The normalised rows of a block. -/
theorem normed_eq (h : Vec Ideal S320x3584 .f32) (w : Vec Ideal S1x3584 .f32) :
    k0_pay2 (F := Ideal) h w = (normed h (fun n => w (ValueIdx.ix2 0 n)) : Vec Ideal S320x3584 .bf16) := by
  funext y
  have e : y = ValueIdx.ix2 (y 0) (y 1) := funext fun b => match b with | ⟨0, _⟩ => rfl | ⟨1, _⟩ => rfl
  rw [e]
  unfold k0_pay2 normed
  pointwise
  rfl

end Cert.OprojIdeal.Hand

end
-- ==== Proof.OIdeal.Block.lean ====
/-
  What the output projection's body leaves at a point: the block's rows, their normalised form and the weights.
-/
module

public import proofs.«01_k».proof.Proof.OIdeal.Weights

@[expose] public section

set_option maxRecDepth 16384

noncomputable section

namespace Cert.OprojIdeal.Hand

open Cert.OprojIdeal Cert.OprojIdeal.Gen
open Cert.KernelIdeal.Hand (halfVal)
open Cert.Oproj.Formula
open Idealize.ShloMosaic Idealize.ShloMosaic.TcCoe Idealize.ShloMosaic.Tactic Idealize.SL.Sem
open Idealize.ShloMosaic.Pipeline (Dat)
open scoped BigOperators

theorem z2 : (![0, 0] : Fin 2 → Nat) = fun _ => 0 := funext fun a => match a with | ⟨0, _⟩ => rfl | ⟨1, _⟩ => rfl

variable (c : Dev nD) (i : grid0.Coords) (arg1 : Memref sig .tc .vmem S320x3584 .bf16) (harg1 : arg1.IsWhole) (arg2 : Memref sig .tc .vmem S320x3584 .bf16) (harg2 : arg2.IsWhole) (arg3 : Memref sig .tc .vmem S1x3584 .f32) (harg3 : arg3.IsWhole) (arg4 : Memref sig .tc .vmem S448x3584 .i32) (harg4 : arg4.IsWhole) (arg5 : Memref sig .tc .vmem S28x448 .i32) (harg5 : arg5.IsWhole) (arg6 : Memref sig .tc .vmem S28x3584 .i16) (harg6 : arg6.IsWhole) (arg7 : Memref sig .tc .vmem S320x3584 .bf16) (harg7 : arg7.IsWhole) (arg8 : Memref sig .tc .vmem S320x3584 .bf16) (harg8 : arg8.IsWhole) (arg9 : Memref sig .tc .vmem S3584x3584 .bf16) (harg9 : arg9.IsWhole) (arg10 : Memref sig .tc .vmem S320x3584 .f32) (harg10 : arg10.IsWhole)
  (x0 : Vec Ideal S320x3584 .bf16) (x1 : Vec Ideal S320x3584 .bf16) (x2 : Vec Ideal S1x3584 .f32) (x3 : Vec Ideal S448x3584 .i32) (x4 : Vec Ideal S28x448 .i32) (x5 : Vec Ideal S28x3584 .i16) (xs0 : Vec Ideal S3584x3584 .bf16)

/-- A value read back whole is itself. -/
theorem whole (X : S320x3584.Idx → EReal) : (fun j => X ((Rect.unit (s := S320x3584) ![0, 0] S320x3584.size inb_S320x3584_S320x3584_0_0).toLoadRect.idx j)) = X :=
  funext fun (j : S320x3584.Idx) => congrArg X (funext fun a => Fin.ext (match a with
    | ⟨0, _⟩ => by show 0 + 1 * (j 0).val = (j 0).val; omega
    | ⟨1, _⟩ => by show 0 + 1 * (j 1).val = (j 1).val; omega))

/-- The body's reads are those of its whole arrays. -/
theorem reads_of : (reads (F := Ideal) arg4 harg4 arg5 harg5 arg6 harg6 x3 x4 x5).Of x3 x4 x5 := ⟨fun k n hk hn => rd arg4 harg4 x3 (Rect.unit (s := S448x3584) ![16 * n, 512 * k] S16x512.size (inbQ hk hn)),
    fun t ht => rd arg5 harg5 x4 (Rect.unit (s := S28x448) ![0, 128 * t] S28x128.size (inbZ ht)), rd arg5 harg5 x4 (Rect.unit (s := S28x448) ![0, 384] S28x64.size inbL),
    fun k hk => rd arg6 harg6 x5 (Rect.unit (s := S28x3584) ![0, 512 * k] S28x512.size (inbS hk))⟩

theorem acts_eq : acts (F := Ideal) arg1 harg1 x0 = x0 := (rd _ _ _ _).trans (View.ld_unit_zero z2 _ x0)

theorem resid_eq : resid (F := Ideal) arg2 harg2 x1 = fun k hk => View.ld x1 (Rect.unit (s := S320x3584) ![0, 512 * k] S320x512.size (inbR hk)) :=
  funext fun _ => funext fun _ => rd _ _ _ _

/-- The first point's chunk of weights at an index. -/
theorem firstW_apply (k : Nat) (hk : k < 7) (r : Fin 3584) (l : Fin 512) :
    firstW (F := Ideal) c arg4 harg4 arg5 harg5 arg6 harg6 arg9 x3 x4 x5 k hk (ValueIdx.ix2 r l) = bitsW x3 x4 x5 r ⟨512 * k + l.val, colLt hk l⟩ := by
  have hl := l.isLt
  rw [firstW_eq, View.readCov_eq_canon']
  have e : (Rect.unit (s := S3584x3584) ![0, 512 * k] S3584x512.size (inbC hk)).toLoadRect.idx (ValueIdx.ix2 r l) = ValueIdx.ix2 r ⟨512 * k + l.val, by omega⟩ :=
    funext fun a => Fin.ext (match a with
      | ⟨0, _⟩ => by show 0 + 1 * r.val = r.val; omega
      | ⟨1, _⟩ => by show 512 * k + 1 * l.val = 512 * k + l.val; omega)
  show View.canon _ ((Rect.unit (s := S3584x3584) ![0, 512 * k] S3584x512.size (inbC hk)).toLoadRect.idx (ValueIdx.ix2 r l)) = _
  rw [e]
  exact canon_all (reads_of arg4 harg4 arg5 harg5 arg6 harg6 x3 x4 x5) (k + 1) hk _ (by show 512 * k + l.val < 512 * (k + 1); omega)

/-- A later point's chunk of weights at an index. -/
theorem laterW_apply (W : Fin 3584 → Fin 3584 → EReal) (hW : xs0 = fun y => W (y 0) (y 1)) (k : Nat) (hk : k < 7) (r : Fin 3584) (l : Fin 512) :
    laterW (F := Ideal) arg9 harg9 xs0 k hk (ValueIdx.ix2 r l) = W r ⟨512 * k + l.val, colLt hk l⟩ := by
  have hl := l.isLt
  have h : View.ld xs0 (Rect.unit (s := S3584x3584) ![0, 512 * k] S3584x512.size (inbC hk)) (ValueIdx.ix2 r l) = xs0 (ValueIdx.ix2 r ⟨512 * k + l.val, colLt hk l⟩) :=
    View.ld_unit_apply_of xs0 _ _ _ _ _ (fun a => match a with
      | ⟨0, _⟩ => by show r.val = 0 + r.val; omega
      | ⟨1, _⟩ => rfl)
  unfold laterW
  rw [rd, h, hW]

section A

variable (hc0 : cond0_0 i) (hc1 : ¬cond0_1 i)

/-- The weights the first point leaves. -/
theorem first_weights : sout0_A_0 (F := Ideal) c i arg1 harg1 arg2 harg2 arg3 harg3 arg4 harg4 arg5 harg5 arg6 harg6 arg7 harg7 arg8 harg8 arg9 harg9 arg10 harg10 hc0 hc1 x0 x1 x2 x3 x4 x5 = fun y => bitsW x3 x4 x5 (y 0) (y 1) := by
  have e1 : kernelRun0_A.sl.HS0_28 (F := Ideal) c arg4 harg4 arg5 harg5 arg6 harg6 x3 x4 x5 = allPieces (reads (F := Ideal) arg4 harg4 arg5 harg5 arg6 harg6 x3 x4 x5) 1 (by omega) := HS0_28_eq c arg4 harg4 arg5 harg5 arg6 harg6 x3 x4 x5
  have e2 : kernelRun0_A.sl.HS0_56 (F := Ideal) c arg4 harg4 arg5 harg5 arg6 harg6 x3 x4 x5 = allPieces (reads (F := Ideal) arg4 harg4 arg5 harg5 arg6 harg6 x3 x4 x5) 2 (by omega) := (HS0_56_eq c arg4 harg4 arg5 harg5 arg6 harg6 x3 x4 x5).trans (by rw [e1]; rfl)
  have e3 : kernelRun0_A.sl.HS0_84 (F := Ideal) c arg4 harg4 arg5 harg5 arg6 harg6 x3 x4 x5 = allPieces (reads (F := Ideal) arg4 harg4 arg5 harg5 arg6 harg6 x3 x4 x5) 3 (by omega) := (HS0_84_eq c arg4 harg4 arg5 harg5 arg6 harg6 x3 x4 x5).trans (by rw [e2]; rfl)
  have e4 : kernelRun0_A.sl.HS0_112 (F := Ideal) c arg4 harg4 arg5 harg5 arg6 harg6 x3 x4 x5 = allPieces (reads (F := Ideal) arg4 harg4 arg5 harg5 arg6 harg6 x3 x4 x5) 4 (by omega) := (HS0_112_eq c arg4 harg4 arg5 harg5 arg6 harg6 x3 x4 x5).trans (by rw [e3]; rfl)
  have e5 : kernelRun0_A.sl.HS0_140 (F := Ideal) c arg4 harg4 arg5 harg5 arg6 harg6 x3 x4 x5 = allPieces (reads (F := Ideal) arg4 harg4 arg5 harg5 arg6 harg6 x3 x4 x5) 5 (by omega) := (HS0_140_eq c arg4 harg4 arg5 harg5 arg6 harg6 x3 x4 x5).trans (by rw [e4]; rfl)
  have e6 : kernelRun0_A.sl.HS0_168 (F := Ideal) c arg4 harg4 arg5 harg5 arg6 harg6 x3 x4 x5 = allPieces (reads (F := Ideal) arg4 harg4 arg5 harg5 arg6 harg6 x3 x4 x5) 6 (by omega) := (HS0_168_eq c arg4 harg4 arg5 harg5 arg6 harg6 x3 x4 x5).trans (by rw [e5]; rfl)
  have e7 : kernelRun0_A.sl.HS0_196 (F := Ideal) c arg4 harg4 arg5 harg5 arg6 harg6 x3 x4 x5 = allPieces (reads (F := Ideal) arg4 harg4 arg5 harg5 arg6 harg6 x3 x4 x5) 7 (by omega) := (HS0_196_eq c arg4 harg4 arg5 harg5 arg6 harg6 x3 x4 x5).trans (by rw [e6]; rfl)
  unfold sout0_A_0
  rw [View.read_writes_junk_eq_canon, A_S0, e7]
  exact funext fun y => canon_all (reads_of arg4 harg4 arg5 harg5 arg6 harg6 x3 x4 x5) 7 le_rfl y (by have : (y 1).val < 3584 := (y 1).isLt; omega)

/-- The rows the first point leaves. -/
theorem first_rows : out0_A_6 (F := Ideal) c i arg1 harg1 arg2 harg2 arg3 harg3 arg4 harg4 arg5 harg5 arg6 harg6 arg7 harg7 arg8 harg8 arg9 harg9 arg10 harg10 hc0 hc1 x0 x1 x2 x3 x4 x5 = hidden x0 x1 (bitsW x3 x4 x5) := by
  unfold out0_A_6
  rw [View.read_writes_junk_eq_canon, A_6, acts_eq, resid_eq]
  exact canon_rows x0 x1 _ _ (firstW_apply c arg4 harg4 arg5 harg5 arg6 harg6 arg9 x3 x4 x5)

/-- The normalised rows the first point leaves. -/
theorem first_normed : out0_A_7 (F := Ideal) c i arg1 harg1 arg2 harg2 arg3 harg3 arg4 harg4 arg5 harg5 arg6 harg6 arg7 harg7 arg8 harg8 arg9 harg9 arg10 harg10 hc0 hc1 x0 x1 x2 x3 x4 x5 = normed (hidden x0 x1 (bitsW x3 x4 x5)) (fun n => x2 (ValueIdx.ix2 0 n)) := by
  unfold out0_A_7
  rw [View.read_writes_junk_eq_canon, A_7, View.canon_unit_zero z2, A_S1, acts_eq, resid_eq, rd, View.ld_unit_zero z2 _ x2, View.readCov_eq_canon',
    canon_rows32 x0 x1 _ _ (firstW_apply c arg4 harg4 arg5 harg5 arg6 harg6 arg9 x3 x4 x5)]
  rw [whole]
  exact normed_eq _ _

end A

section B

/-- A later point keeps the weights. -/
theorem later_weights (hc0 : ¬cond0_0 i) (hc1 : cond0_1 i) : sout0_B_0 (F := Ideal) c i arg1 harg1 arg2 harg2 arg3 harg3 arg4 harg4 arg5 harg5 arg6 harg6 arg7 harg7 arg8 harg8 arg9 harg9 arg10 harg10 hc0 hc1 x0 x1 x2 x3 x4 x5 xs0 = xs0 := rfl

variable (hc0 : ¬cond0_0 i) (hc1 : cond0_1 i) (W : Fin 3584 → Fin 3584 → EReal) (hW : xs0 = fun y => W (y 0) (y 1))
include hW

/-- The rows a later point leaves. -/
theorem later_rows : out0_B_6 (F := Ideal) c i arg1 harg1 arg2 harg2 arg3 harg3 arg4 harg4 arg5 harg5 arg6 harg6 arg7 harg7 arg8 harg8 arg9 harg9 arg10 harg10 hc0 hc1 x0 x1 x2 x3 x4 x5 xs0 = hidden x0 x1 W := by
  unfold out0_B_6
  rw [View.read_writes_junk_eq_canon, B_6, acts_eq, resid_eq]
  exact canon_rows x0 x1 _ _ (laterW_apply arg9 harg9 xs0 W hW)

/-- The normalised rows a later point leaves. -/
theorem later_normed : out0_B_7 (F := Ideal) c i arg1 harg1 arg2 harg2 arg3 harg3 arg4 harg4 arg5 harg5 arg6 harg6 arg7 harg7 arg8 harg8 arg9 harg9 arg10 harg10 hc0 hc1 x0 x1 x2 x3 x4 x5 xs0 = normed (hidden x0 x1 W) (fun n => x2 (ValueIdx.ix2 0 n)) := by
  unfold out0_B_7
  rw [View.read_writes_junk_eq_canon, B_7, View.canon_unit_zero z2, B_S1, acts_eq, resid_eq, rd, View.ld_unit_zero z2 _ x2, View.readCov_eq_canon',
    canon_rows32 x0 x1 _ _ (laterW_apply arg9 harg9 xs0 W hW)]
  rw [whole]
  exact normed_eq _ _

end B

end Cert.OprojIdeal.Hand

end
-- ==== Proof.OIdeal.Value.lean ====
/-
  The output projection's two results as formulas of its arguments, and the run that leaves them.
-/
module

public import proofs.«01_k».proof.Proof.OIdeal.Block

@[expose] public section

set_option maxRecDepth 16384

noncomputable section

namespace Cert.OprojIdeal.Hand

open Cert.OprojIdeal Cert.OprojIdeal.Gen
open Cert.KernelIdeal.Hand (halfVal)
open Cert.Oproj.Formula
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- The point's block of the activations at an index. -/
theorem rd0 (c : Dev nD) (t : Fin cfg0.N) (r : Fin 320) (k : Fin 3584) (i : Fin 3200) (e : i.val = t.val * 320 + r.val) :
    (iblk m c 0 t : Vec Ideal S320x3584 .bf16) (ValueIdx.ix2 r k) = V m c main_arg0 (ValueIdx.ix2 i k) := by
  show V m c main_arg0 ((win0_0.blk t).view.emb (ValueIdx.ix2 r k)) = _
  refine congrArg _ (funext fun a => Fin.ext ?_)
  show win0_0.index t a * S320x3584.size a + 1 * _ = _
  rw [index0]
  match a with
  | ⟨0, _⟩ => show t.val * 320 + 1 * r.val = i.val; omega
  | ⟨1, _⟩ => show 0 * 3584 + 1 * k.val = k.val; omega

/-- The point's block of the residual at an index. -/
theorem rd1 (c : Dev nD) (t : Fin cfg0.N) (r : Fin 320) (k : Fin 3584) (i : Fin 3200) (e : i.val = t.val * 320 + r.val) :
    (iblk m c 1 t : Vec Ideal S320x3584 .bf16) (ValueIdx.ix2 r k) = V m c main_arg1 (ValueIdx.ix2 i k) := by
  show V m c main_arg1 ((win0_1.blk t).view.emb (ValueIdx.ix2 r k)) = _
  refine congrArg _ (funext fun a => Fin.ext ?_)
  show win0_1.index t a * S320x3584.size a + 1 * _ = _
  rw [index1]
  match a with
  | ⟨0, _⟩ => show t.val * 320 + 1 * r.val = i.val; omega
  | ⟨1, _⟩ => show 0 * 3584 + 1 * k.val = k.val; omega

/-- The point's block of the norm weights is the whole of them. -/
theorem rd2 (c : Dev nD) (t : Fin cfg0.N) : (iblk m c 2 t : Vec Ideal S1x3584 .f32) = V m c main_v0 := by
  funext y
  show V m c main_v0 ((win0_2.blk t).view.emb y) = _
  refine congrArg _ (funext fun a => Fin.ext ?_)
  show win0_2.index t a * S1x3584.size a + 1 * _ = _
  rw [index2]
  match a with
  | ⟨0, _⟩ => show 0 * 1 + 1 * (y 0).val = (y 0).val; omega
  | ⟨1, _⟩ => show 0 * 3584 + 1 * (y 1).val = (y 1).val; omega

/-- The point's block of the packed weights is the whole of them. -/
theorem rd3 (c : Dev nD) (t : Fin cfg0.N) : (iblk m c 3 t : Vec Ideal S448x3584 .i32) = V m c main_arg3 := by
  funext y
  show V m c main_arg3 ((win0_3.blk t).view.emb y) = _
  refine congrArg _ (funext fun a => Fin.ext ?_)
  show win0_3.index t a * S448x3584.size a + 1 * _ = _
  rw [index3]
  match a with
  | ⟨0, _⟩ => show 0 * 448 + 1 * (y 0).val = (y 0).val; omega
  | ⟨1, _⟩ => show 0 * 3584 + 1 * (y 1).val = (y 1).val; omega

/-- The point's block of the packed zero points is the whole of them. -/
theorem rd4 (c : Dev nD) (t : Fin cfg0.N) : (iblk m c 4 t : Vec Ideal S28x448 .i32) = V m c main_arg4 := by
  funext y
  show V m c main_arg4 ((win0_4.blk t).view.emb y) = _
  refine congrArg _ (funext fun a => Fin.ext ?_)
  show win0_4.index t a * S28x448.size a + 1 * _ = _
  rw [index4]
  match a with
  | ⟨0, _⟩ => show 0 * 28 + 1 * (y 0).val = (y 0).val; omega
  | ⟨1, _⟩ => show 0 * 448 + 1 * (y 1).val = (y 1).val; omega

/-- The point's block of the scales is the whole of them. -/
theorem rd5 (c : Dev nD) (t : Fin cfg0.N) : (iblk m c 5 t : Vec Ideal S28x3584 .i16) = V m c main_arg5 := by
  funext y
  show V m c main_arg5 ((win0_5.blk t).view.emb y) = _
  refine congrArg _ (funext fun a => Fin.ext ?_)
  show win0_5.index t a * S28x3584.size a + 1 * _ = _
  rw [index5]
  match a with
  | ⟨0, _⟩ => show 0 * 28 + 1 * (y 0).val = (y 0).val; omega
  | ⟨1, _⟩ => show 0 * 3584 + 1 * (y 1).val = (y 1).val; omega

/-- The norm weights as one row. -/
theorem V_row (c : Dev nD) (n : Fin 3584) : V m c main_v0 (ValueIdx.ix2 (0 : Fin 1) n) = m ((c.tc : Thread nD τ).loc main_arg2) (ValueIdx.ix1 n) := by
  have e : V m c main_v0 = (shapeCast S1x3584 (m ((c.tc : Thread nD τ).loc main_arg2) : Vec Ideal S3584 .f32) shapeCasts_S3584_S1x3584 : Vec Ideal S1x3584 .f32) := rfl
  rw [e]
  exact shapeCast_apply _ shapeCasts_S3584_S1x3584 _ _ (by
    rw [Shape.rowMajor_val_one, Shape.rowMajor_val_two]
    show n.val = 0 * 3584 + n.val
    omega)

/-- The matrix of weights of the arguments. -/
abbrev Wt (c : Dev nD) : Fin 3584 → Fin 3584 → EReal := bitsW (V m c main_arg3) (V m c main_arg4) (V m c main_arg5)

theorem fst_of {α β γ : Type} {p : α × β × γ} {a : α} {b : β} {c : γ} (h : p = (a, b, c)) : p.1 = a := by rw [h]
theorem snd_of {α β γ : Type} {p : α × β × γ} {a : α} {b : β} {c : γ} (h : p = (a, b, c)) : p.2.1 = b := by rw [h]
theorem thd_of {α β γ : Type} {p : α × β × γ} {a : α} {b : β} {c : γ} (h : p = (a, b, c)) : p.2.2 = c := by rw [h]

/-- The point's weights are those of the whole arguments. -/
theorem point_weights (c : Dev nD) (t : Fin cfg0.N) : bitsW (iblk m c 3 t) (iblk m c 4 t) (iblk m c 5 t) = Wt m c := by
  rw [rd3, rd4, rd5]

/-- The weights carried from point to point. -/
theorem carried (c : Dev nD) : ∀ (n : Nat) (h : n < cfg0.N), (outsAt0 m c n h).2.2 = fun y => Wt m c (y 0) (y 1) := by
  intro n
  induction n with
  | zero =>
    intro h
    refine (thd_of (outsAt0_A m c ⟨0, h⟩ rfl (Nat.not_succ_le_zero 0))).trans ((first_weights ..).trans ?_)
    rw [point_weights]
  | succ n ih =>
    intro h
    have hN : n + 1 < 10 := lt_of_lt_of_eq h (show cfg0.N = 10 from N_0)
    have key : ∀ k hk, k = n → (outsAt0 m c k hk).2.2 = fun y => Wt m c (y 0) (y 1) := by rintro k hk rfl; exact ih hk
    exact (thd_of (outsAt0_B m c ⟨n + 1, h⟩ (by show ¬(n + 1) % 10 = 0; omega) (by show 1 ≤ n + 1; omega))).trans ((later_weights ..).trans (key _ _ (Nat.add_sub_cancel n 1)))

/-- The rows at a point. -/
theorem rows_at (c : Dev nD) (t : Fin cfg0.N) : (outsAt0 m c t.val t.isLt).1 = hidden (iblk m c 0 t : Vec Ideal S320x3584 .bf16) (iblk m c 1 t : Vec Ideal S320x3584 .bf16) (Wt m c) := by
  have hN : t.val < 10 := lt_of_lt_of_eq t.isLt (show cfg0.N = 10 from N_0)
  by_cases h : t.val = 0
  · refine (fst_of (outsAt0_A m c t (by omega) (by omega))).trans ((first_rows ..).trans ?_)
    rw [point_weights]
  · exact (fst_of (outsAt0_B m c t (by omega) (by omega))).trans (later_rows (W := Wt m c) (hW := carried m c _ _) ..)

/-- The normalised rows at a point. -/
theorem normed_at (c : Dev nD) (t : Fin cfg0.N) : (outsAt0 m c t.val t.isLt).2.1
    = normed (hidden (iblk m c 0 t : Vec Ideal S320x3584 .bf16) (iblk m c 1 t : Vec Ideal S320x3584 .bf16) (Wt m c)) (fun n => m ((c.tc : Thread nD τ).loc main_arg2) (ValueIdx.ix1 n)) := by
  have hN : t.val < 10 := lt_of_lt_of_eq t.isLt (show cfg0.N = 10 from N_0)
  have hr : (fun n => (iblk m c 2 t : Vec Ideal S1x3584 .f32) (ValueIdx.ix2 0 n)) = fun n => m ((c.tc : Thread nD τ).loc main_arg2) (ValueIdx.ix1 n) := by
    rw [rd2]; exact funext (V_row m c)
  by_cases h : t.val = 0
  · refine (snd_of (outsAt0_A m c t (by omega) (by omega))).trans ((first_normed ..).trans ?_)
    rw [point_weights, hr]
  · refine (snd_of (outsAt0_B m c t (by omega) (by omega))).trans ((later_normed (W := Wt m c) (hW := carried m c _ _) ..).trans ?_)
    rw [hr]

/-- The first result array. -/
abbrev khid (c : Dev nD) : Buf (Elt Ideal) ((c.tc : Thread nD τ).loc main_v1_0) := hidden (V m c main_arg0) (V m c main_arg1) (Wt m c)

/-- The second result array. -/
abbrev knorm (c : Dev nD) : Buf (Elt Ideal) ((c.tc : Thread nD τ).loc main_v1_1) := normed (khid m c) (fun n => m ((c.tc : Thread nD τ).loc main_arg2) (ValueIdx.ix1 n))

/-- Rows of two matrices that agree give the same hidden row. -/
theorem hidden_row {R R' : Nat} (a x : Mat R 3584) (A X : Mat R' 3584) (W : Fin 3584 → Fin 3584 → EReal) (r : Fin R) (i : Fin R')
    (ha : ∀ k, a (ValueIdx.ix2 r k) = A (ValueIdx.ix2 i k)) (hx : ∀ k, x (ValueIdx.ix2 r k) = X (ValueIdx.ix2 i k)) (n : Fin 3584) :
    hidden a x W (ValueIdx.ix2 r n) = hidden A X W (ValueIdx.ix2 i n) := by
  show x (ValueIdx.ix2 r n) + ∑ k, a (ValueIdx.ix2 r k) * W k n = X (ValueIdx.ix2 i n) + ∑ k, A (ValueIdx.ix2 i k) * W k n
  simp only [ha, hx]

/-- Rows of two matrices that agree give the same normalised row. -/
theorem normed_row {R R' : Nat} (h : Mat R 3584) (H : Mat R' 3584) (w : Fin 3584 → EReal) (r : Fin R) (i : Fin R')
    (hh : ∀ k, h (ValueIdx.ix2 r k) = H (ValueIdx.ix2 i k)) (n : Fin 3584) : normed h w (ValueIdx.ix2 r n) = normed H w (ValueIdx.ix2 i n) := by
  show h (ValueIdx.ix2 r n) * Ideal.rsqrt (Ideal.div (∑ k, h (ValueIdx.ix2 r k) * h (ValueIdx.ix2 r k)) (Ideal.ofBits .f32 0x45600000#32) + Ideal.ofBits .f32 0x3727C5AC#32) * w n
    = H (ValueIdx.ix2 i n) * Ideal.rsqrt (Ideal.div (∑ k, H (ValueIdx.ix2 i k) * H (ValueIdx.ix2 i k)) (Ideal.ofBits .f32 0x45600000#32) + Ideal.ofBits .f32 0x3727C5AC#32) * w n
  simp only [hh]

/-- A block's row is the whole array's. -/
theorem row_eq (c : Dev nD) (t : Fin cfg0.N) (r : Fin 320) (i : Fin 3200) (e : i.val = t.val * 320 + r.val) (n : Fin 3584) :
    hidden (iblk m c 0 t : Vec Ideal S320x3584 .bf16) (iblk m c 1 t : Vec Ideal S320x3584 .bf16) (Wt m c) (ValueIdx.ix2 r n) = khid m c (ValueIdx.ix2 i n) :=
  hidden_row _ _ _ _ _ r i (fun k => rd0 m c t r k i e) (fun k => rd1 m c t r k i e) n

/-- The first result array at the end of the run. -/
theorem final6 (c : Dev nD) : (dats m 0 c).arrAt 6 cfg0.N = khid m c := by
  refine (dats m 0 c).arrAt_eq_of_covers 6 _ (by decide +kernel) fun t hf y => ?_
  rw [after0_6, rows_at]
  have h0 : (y 0).val < 320 := (y 0).isLt
  have h1 : (y 1).val < 3584 := (y 1).isLt
  have ht : t.val < 10 := t.isLt
  have hy : (cfg0.win 6).xinj (cfg0.grid.coords t) y = ValueIdx.ix2 (⟨(y 0).val, h0⟩ : Fin 320) (⟨(y 1).val, h1⟩ : Fin 3584) :=
    funext fun a => match a with | ⟨0, _⟩ => rfl | ⟨1, _⟩ => rfl
  have he : ((cfg0.win 6).blk t).view.emb y = ValueIdx.ix2 (⟨t.val * 320 + (y 0).val, by omega⟩ : Fin 3200) (⟨(y 1).val, h1⟩ : Fin 3584) := by
    refine funext fun a => Fin.ext ?_
    show win0_6.index t a * S320x3584.size a + 1 * _ = _
    rw [index6]
    match a with
    | ⟨0, _⟩ => show t.val * 320 + 1 * (y 0).val = t.val * 320 + (y 0).val; omega
    | ⟨1, _⟩ => show 0 * 3584 + 1 * (y 1).val = (y 1).val; omega
  rw [hy, he]
  exact row_eq m c t ⟨(y 0).val, h0⟩ ⟨t.val * 320 + (y 0).val, by omega⟩ rfl ⟨(y 1).val, h1⟩

/-- The second result array at the end of the run. -/
theorem final7 (c : Dev nD) : (dats m 0 c).arrAt 7 cfg0.N = knorm m c := by
  refine (dats m 0 c).arrAt_eq_of_covers 7 _ (by decide +kernel) fun t hf y => ?_
  rw [after0_7, normed_at]
  have h0 : (y 0).val < 320 := (y 0).isLt
  have h1 : (y 1).val < 3584 := (y 1).isLt
  have ht : t.val < 10 := t.isLt
  have hy : (cfg0.win 7).xinj (cfg0.grid.coords t) y = ValueIdx.ix2 (⟨(y 0).val, h0⟩ : Fin 320) (⟨(y 1).val, h1⟩ : Fin 3584) :=
    funext fun a => match a with | ⟨0, _⟩ => rfl | ⟨1, _⟩ => rfl
  have he : ((cfg0.win 7).blk t).view.emb y = ValueIdx.ix2 (⟨t.val * 320 + (y 0).val, by omega⟩ : Fin 3200) (⟨(y 1).val, h1⟩ : Fin 3584) := by
    refine funext fun a => Fin.ext ?_
    show win0_7.index t a * S320x3584.size a + 1 * _ = _
    rw [index7]
    match a with
    | ⟨0, _⟩ => show t.val * 320 + 1 * (y 0).val = t.val * 320 + (y 0).val; omega
    | ⟨1, _⟩ => show 0 * 3584 + 1 * (y 1).val = (y 1).val; omega
  rw [hy, he]
  exact normed_row _ _ (fun n => m ((c.tc : Thread nD τ).loc main_arg2) (ValueIdx.ix1 n)) ⟨(y 0).val, h0⟩ ⟨t.val * 320 + (y 0).val, by omega⟩ (row_eq m c t ⟨(y 0).val, h0⟩ ⟨t.val * 320 + (y 0).val, by omega⟩ rfl) ⟨(y 1).val, h1⟩

/-- The run, read: both results at their formulas and the arguments unchanged. -/
theorem run : θ_run defs (onTc (τ := τ) (main (F := Ideal))) ⟨m, fun _ => 0, ρ⟩ fun r => ∀ c : Dev nD,
      r.2.mem ((c.tc : Thread nD τ).loc main_v1_0) = khid m c
      ∧ r.2.mem ((c.tc : Thread nD τ).loc main_v1_1) = knorm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.OprojIdeal.Hand

end
-- ==== Proof.ORef.Value.lean ====
/-
  The output projection's reference over the reals: its two results as formulas of its arguments, the scales read as
  16-bit floats, and the run that leaves them.
-/
module

public import proofs.«01_k».proof.Proof.OIdeal.Formula
public import proofs.«01_k».proof.Proof.Ref.Weights
public import proofs.«01_k».proof.Proof.Gen.OprojReferenceIdeal.Read
public import proofs.«01_k».proof.Proof.Gen.OprojReferenceIdeal.Run
public import Idealize.ShloMosaic.Lib.TwoAxisContraction
public import Idealize.ShloMosaic.Lib.Pipeline.Value

@[expose] public section

set_option maxRecDepth 16384

noncomputable section

namespace Cert.OprojReferenceIdeal.Hand

open Cert.OprojReferenceIdeal Cert.OprojReferenceIdeal.Gen Cert.OprojReferenceIdeal.Read Cert.OprojReferenceIdeal.Value
open Cert.KernelIdeal.Hand (nib nib_of weight)
open Cert.ReferenceIdeal.Hand (sum_packed)
open Cert.Oproj.Formula
open Idealize.ShloMosaic Idealize.ShloMosaic.TcCoe Idealize.SL.Sem
open scoped BigOperators

section

variable (x0 x1 : S3200x3584.Idx → EReal) (x2 : S3584.Idx → EReal) (x3 : S448x3584.Idx → BitVec 32) (x4 : S28x448.Idx → BitVec 32) (r0 : S28x3584.Idx → EReal)

/-- The reference's nibble of a packed weight. -/
theorem nibble_q (j : Fin 8) (r : Fin 448) (n : Fin 3584) :
    val_main_v11 (F := Ideal) x3 (ValueIdx.ix3 j r n) = nib (x3 (ValueIdx.ix2 r n)) j.val := by
  rw [val_main_v11_apply, val_main_v10_apply, val_main_c_0_apply, val_main_v9_apply, val_main_v8_apply, val_main_v7_apply, val_main_v6_apply,
    val_main_v5_apply, val_main_v4_apply, val_main_v3_apply, val_main_v2_apply, val_main_c_apply]
  have e : idx_main_v7 (idx_main_v8 (ValueIdx.ix3 j r n)) = ValueIdx.ix2 r n := funext fun a => match a with | ⟨0, _⟩ => rfl | ⟨1, _⟩ => rfl
  rw [e]
  refine nib_of .host _ _ j.val j.isLt ?_
  show 4#32 * BitVec.ofNat 32 j.val = BitVec.ofNat 32 (4 * j.val)
  rw [BitVec.ofNat_mul]

/-- The zero points, unpacked, at a group and a column. -/
theorem zero_apply (g : Fin 28) (n : Fin 3584) :
    val_main_v24 (F := Ideal) x4 (ValueIdx.ix2 g n) = nib (x4 (ValueIdx.ix2 g ⟨n.val / 8, by have := n.isLt; omega⟩)) (n.val % 8) := by
  have hg := g.isLt
  have hn := n.isLt
  rw [val_main_v24_apply, val_main_v23_apply]
  have e : idx_main_v23 (idx_main_v24 (ValueIdx.ix2 g n)) = ValueIdx.ix3 (⟨n.val % 8, by omega⟩ : Fin 8) g (⟨n.val / 8, by omega⟩ : Fin 448) :=
    funext fun a => Fin.ext (match a with
      | ⟨0, _⟩ => by show (g.val * 3584 + n.val) % 8 = n.val % 8; omega
      | ⟨1, _⟩ => by show (g.val * 3584 + n.val) / 3584 = g.val; omega
      | ⟨2, _⟩ => by show (g.val * 3584 + n.val) / 8 % 448 = n.val / 8; omega)
  rw [e, val_main_v22_apply, val_main_v21_apply, val_main_c_2_apply, val_main_v20_apply, val_main_v19_apply, val_main_v18_apply, val_main_v17_apply,
    val_main_v16_apply, val_main_v15_apply, val_main_v14_apply, val_main_v13_apply, val_main_c_1_apply]
  have e : ∀ j l, idx_main_v18 (idx_main_v19 (ValueIdx.ix3 j g l)) = ValueIdx.ix2 g l := fun j l => funext fun a => match a with | ⟨0, _⟩ => rfl | ⟨1, _⟩ => rfl
  rw [e]
  refine nib_of .host _ _ (n.val % 8) (by omega) ?_
  show 4#32 * BitVec.ofNat 32 (n.val % 8) = BitVec.ofNat 32 (4 * (n.val % 8))
  rw [BitVec.ofNat_mul]

/-- The reference's weight at a nibble, a packed row and a column is the matrix's at the unpacked row. -/
theorem weight_apply (j : Fin 8) (r : Fin 448) (n : Fin 3584) (k : Fin 3584) (hk : k.val = r.val * 8 + j.val) :
    val_main_v34 (F := Ideal) x3 x4 r0 (ValueIdx.ix3 j r n) = projW x3 x4 r0 k n := by
  have hj := j.isLt
  have hr := r.isLt
  have hn := n.isLt
  have hd : ((j.val * 448 + r.val) * 3584 + n.val) / 57344 = j.val * 28 + r.val / 16 := by omega
  have e : idx_main_v33 (ValueIdx.ix3 j r n) = ValueIdx.ix4 j (⟨r.val / 16, by omega⟩ : Fin 28) (⟨r.val % 16, by omega⟩ : Fin 16) n :=
    funext fun a => Fin.ext (match a with
      | ⟨0, _⟩ => by show ((j.val * 448 + r.val) * 3584 + n.val) / 1605632 = j.val; omega
      | ⟨1, _⟩ => by show ((j.val * 448 + r.val) * 3584 + n.val) / 57344 % 28 = r.val / 16; rw [hd]; omega
      | ⟨2, _⟩ => by show ((j.val * 448 + r.val) * 3584 + n.val) / 3584 % 16 = r.val % 16; omega
      | ⟨3, _⟩ => by show ((j.val * 448 + r.val) * 3584 + n.val) % 3584 = n.val; omega)
  have e1 : ∀ (g : Fin 28) (q : Fin 16), idx_main_v12 (ValueIdx.ix4 j g q n) = ValueIdx.ix3 j (⟨g.val * 16 + q.val, by have := g.isLt; have := q.isLt; omega⟩ : Fin 448) n :=
    fun g q => by
      have hg := g.isLt
      have hq := q.isLt
      exact funext fun a => Fin.ext (match a with
        | ⟨0, _⟩ => by show (((j.val * 28 + g.val) * 16 + q.val) * 3584 + n.val) / 1605632 = j.val; omega
        | ⟨1, _⟩ => by show (((j.val * 28 + g.val) * 16 + q.val) * 3584 + n.val) / 3584 % 448 = g.val * 16 + q.val; omega
        | ⟨2, _⟩ => by show (((j.val * 28 + g.val) * 16 + q.val) * 3584 + n.val) % 3584 = n.val; omega)
  have e2 : ∀ g q, idx_main_v27 (idx_main_v28 (ValueIdx.ix4 j g q n)) = ValueIdx.ix2 g n := fun g q => funext fun a => match a with | ⟨0, _⟩ => rfl | ⟨1, _⟩ => rfl
  have e3 : ∀ g q, idx_main_v30 (idx_main_v31 (ValueIdx.ix4 j g q n)) = ValueIdx.ix2 g n := fun g q => funext fun a => match a with | ⟨0, _⟩ => rfl | ⟨1, _⟩ => rfl
  rw [val_main_v34_apply, val_main_v33_apply, e, val_main_v32_apply, val_main_v29_apply, val_main_v25_apply, val_main_v12_apply, val_main_v28_apply, val_main_v27_apply,
    val_main_v26_apply, val_main_v31_apply, val_main_v30_apply, e1, e2, e3, nibble_q, zero_apply]
  have a1 : (⟨r.val / 16 * 16 + r.val % 16, by omega⟩ : Fin 448) = ⟨k.val / 8, by have := k.isLt; omega⟩ := Fin.ext (by show r.val / 16 * 16 + r.val % 16 = k.val / 8; omega)
  have a2 : (⟨r.val / 16, by omega⟩ : Fin 28) = ⟨k.val / 128, by have := k.isLt; omega⟩ := Fin.ext (by show r.val / 16 = k.val / 128; omega)
  have a3 : j.val = k.val % 8 := by omega
  unfold projW
  rw [← a1, ← a2, ← a3]
  rfl

/-- The activations regrouped by packed rows. -/
theorem act_apply (i : Fin 3200) (r : Fin 448) (j : Fin 8) (k : Fin 3584) (hk : k.val = r.val * 8 + j.val) :
    val_main_v35 (F := Ideal) x0 (ValueIdx.ix3 i r j) = x0 (ValueIdx.ix2 i k) := by
  have hi := i.isLt
  have hr := r.isLt
  have hj := j.isLt
  rw [val_main_v35_apply]
  refine congrArg x0 (funext fun a => Fin.ext ?_)
  match a with
  | ⟨0, _⟩ => show ((i.val * 448 + r.val) * 8 + j.val) / 3584 = i.val; omega
  | ⟨1, _⟩ => show ((i.val * 448 + r.val) * 8 + j.val) % 3584 = k.val; omega

/-- The reference's projection at a row and a column. -/
theorem proj_apply (i : Fin 3200) (n : Fin 3584) :
    val_main_v36 (F := Ideal) x0 x3 x4 r0 (ValueIdx.ix2 i n) = ∑ k, x0 (ValueIdx.ix2 i k) * projW x3 x4 r0 k n := by
  let D := dot_S3200x448x8_S8x448x3584_S3200x3584_21_01_0_2_n_n
  have hr : D.contr.rank = 2 := rfl
  have c0 : D.contr.size ⟨0, by rw [hr]; omega⟩ = 8 := rfl
  have c1 : D.contr.size ⟨1, by rw [hr]; omega⟩ = 448 := rfl
  unfold val_main_v36
  have hA := fun r j k hk => act_apply x0 i r j k hk
  have hB := fun j r k hk => weight_apply x3 x4 r0 j r n k hk
  generalize val_main_v35 (F := Ideal) x0 = A at hA ⊢
  generalize val_main_v34 (F := Ideal) x3 x4 r0 = B at hB ⊢
  simp only [Host.dotGeneral]
  rw [Ideal.dotGeneral_apply, ← Equiv.sum_comp (ValueIdx.contrEquiv2 D 8 448 hr c0 c1).symm, Fintype.sum_prod_type, ← sum_packed]
  refine Finset.sum_congr rfl fun j _ => Finset.sum_congr rfl fun r _ => ?_
  have h0 := ValueIdx.contrEquiv2_symm_val0 D 8 448 hr c0 c1 (j, r)
  have h1 := ValueIdx.contrEquiv2_symm_val1 D 8 448 hr c0 c1 (j, r)
  have el : D.lhsIdx (ValueIdx.ix2 i n) ((ValueIdx.contrEquiv2 D 8 448 hr c0 c1).symm (j, r)) = ValueIdx.ix3 i r j := by
    funext a; apply Fin.ext
    match a with
    | ⟨0, _⟩ => rfl
    | ⟨1, _⟩ => exact h1
    | ⟨2, _⟩ => exact h0
  have er : D.rhsIdx (ValueIdx.ix2 i n) ((ValueIdx.contrEquiv2 D 8 448 hr c0 c1).symm (j, r)) = ValueIdx.ix3 j r n := by
    funext a; apply Fin.ext
    match a with
    | ⟨0, _⟩ => exact h0
    | ⟨1, _⟩ => exact h1
    | ⟨2, _⟩ => rfl
  rw [el, er, hA r j ⟨r.val * 8 + j.val, by have := j.isLt; have := r.isLt; omega⟩ rfl, hB j r ⟨r.val * 8 + j.val, by have := j.isLt; have := r.isLt; omega⟩ rfl]

theorem idx_eta {R C : Nat} (y : Shape.Idx ⟨2, ![R, C]⟩) : y = ValueIdx.ix2 (y 0) (y 1) := funext fun a => match a with | ⟨0, _⟩ => rfl | ⟨1, _⟩ => rfl

/-- The reference's first result. -/
theorem hidden_eq : val_main_v38 (F := Ideal) x0 x1 x3 x4 r0 = hidden x0 x1 (projW x3 x4 r0) := by
  funext y
  show (x1 y : EReal) + val_main_v36 (F := Ideal) x0 x3 x4 r0 y = _
  rw [show val_main_v36 (F := Ideal) x0 x3 x4 r0 y = ∑ k, x0 (ValueIdx.ix2 (y 0) k) * projW x3 x4 r0 k (y 1) from
    (congrArg _ (idx_eta y)).trans (proj_apply x0 x3 x4 r0 (y 0) (y 1))]
  rfl

/-- The reference's second result. -/
theorem normed_eq : val_main_v53 (F := Ideal) x0 x1 x2 x3 x4 r0 = normed (hidden x0 x1 (projW x3 x4 r0)) (fun n => x2 (ValueIdx.ix1 n)) := by
  have hh : ∀ y, val_main_v39 (F := Ideal) x0 x1 x3 x4 r0 y = hidden x0 x1 (projW x3 x4 r0) y := fun y => congrFun (hidden_eq x0 x1 x3 x4 r0) y
  refine funext fun (y : S3200x3584.Idx) => ?_
  rw [val_main_v53_apply, val_main_v52_apply, val_main_v51_apply, val_main_v50_apply, val_main_v49_apply, val_main_v48_apply, val_main_v47_apply, val_main_v46_apply,
    val_main_v45_apply, val_main_cst_4_apply, val_main_v44_apply, val_main_v43_apply, val_main_cst_3_apply, val_main_v42_apply, val_main_v41_apply, val_main_cst_apply, hh]
  have hs : ∀ k, val_main_v40 (F := Ideal) x0 x1 x3 x4 r0 (idx_main_v41 (idx_main_v42 (idx_main_v48 y)) k)
      = hidden x0 x1 (projW x3 x4 r0) (ValueIdx.ix2 (y 0) k) * hidden x0 x1 (projW x3 x4 r0) (ValueIdx.ix2 (y 0) k) := by
    intro k
    have e : idx_main_v41 (idx_main_v42 (idx_main_v48 y)) k = ValueIdx.ix2 (y 0) k := funext fun a => match a with | ⟨0, _⟩ => rfl | ⟨1, _⟩ => rfl
    rw [val_main_v40_apply, e]
    exact congrArg₂ (fun a b : EReal => a * b) (hh _) (hh _)
  simp only [hs]
  rw [show (FloatOps.ofBits (F := Ideal) .f32 0x00000000#32 : EReal) = 0 from Ideal.ofBits_zero_f32, zero_add]
  have e2 : idx_main_v50 (idx_main_v51 y) = ValueIdx.ix1 (y 1) := funext fun a => match a with | ⟨0, _⟩ => rfl
  rw [e2]
  rfl

end

variable (m : (ℓ : Loc nD τ sig) → Buf (Elt Ideal) ℓ) (ρ : Dev nD → PrngReg)

/-- The scales, converted: the 16-bit floats their bits denote. -/
theorem scales_eq (c : Dev nD) :
    reg_main_v0 m c = (fun j => Ideal.ofBits .f16 (m ((c.tc : Thread nD τ).loc main_arg5) j) : S28x3584.Idx → EReal) := by
  have z2 : (![0, 0] : Fin 2 → Nat) = fun _ => 0 := funext fun a => match a with | ⟨0, _⟩ => rfl | ⟨1, _⟩ => rfl
  have i0 : ∀ t : Fin grid0.N, win0_0.index t = ![0, 0] := by decide +kernel
  have i1 : ∀ t : Fin grid0.N, win0_1.index t = ![0, 0] := by decide +kernel
  unfold reg_main_v0
  refine (dats m 0 c).arrAt_eq_of_covers 1 _ (by decide +kernel) fun t hf y => ?_
  have h0 : (win0_0.blk t).view.emb y = y := funext fun a => Fin.ext (by
    show win0_0.index t a * S28x3584.size a + 1 * _ = _
    rw [i0]
    match a with
    | ⟨0, _⟩ => show 0 * 28 + 1 * (y 0).val = (y 0).val; omega
    | ⟨1, _⟩ => show 0 * 3584 + 1 * (y 1).val = (y 1).val; omega)
  have h1 : (win0_1.blk t).view.emb y = y := funext fun a => Fin.ext (by
    show win0_1.index t a * S28x3584.size a + 1 * _ = _
    rw [i1]
    match a with
    | ⟨0, _⟩ => show 0 * 28 + 1 * (y 0).val = (y 0).val; omega
    | ⟨1, _⟩ => show 0 * 3584 + 1 * (y 1).val = (y 1).val; omega)
  rw [after0_1]
  unfold out0_1
  rw [View.canon_unit_zero z2, View.ld_unit_zero z2]
  show Ideal.ofBits .f16 (V m c main_arg5 ((win0_0.blk t).view.emb y)) = Ideal.ofBits .f16 (m ((c.tc : Thread nD τ).loc main_arg5) ((win0_1.blk t).view.emb y))
  rw [h0, h1]
  exact congrArg (Ideal.ofBits .f16) (congrFun (V_main_arg5 m c) y)

/-- The reference's hidden rows from its arguments. -/
abbrev rhid (c : Dev nD) : Buf (Elt Ideal) ((c.tc : Thread nD τ).loc main_v38) :=
  hidden (m ((c.tc : Thread nD τ).loc main_arg0)) (m ((c.tc : Thread nD τ).loc main_arg1))
    (projW (m ((c.tc : Thread nD τ).loc main_arg3)) (m ((c.tc : Thread nD τ).loc main_arg4)) (fun j => Ideal.ofBits .f16 (m ((c.tc : Thread nD τ).loc main_arg5) j)))

/-- The reference's normalised rows from its arguments. -/
abbrev rnorm (c : Dev nD) : Buf (Elt Ideal) ((c.tc : Thread nD τ).loc main_v53) :=
  normed (rhid m c) (fun n => m ((c.tc : Thread nD τ).loc main_arg2) (ValueIdx.ix1 n))

/-- The reference's hidden rows from the converted scales. -/
theorem first_result (c : Dev nD) :
    val_main_v38 (F := Ideal) (m ((c.tc : Thread nD τ).loc main_arg0)) (m ((c.tc : Thread nD τ).loc main_arg1)) (m ((c.tc : Thread nD τ).loc main_arg3))
      (m ((c.tc : Thread nD τ).loc main_arg4)) (reg_main_v0 m c) = rhid m c := by
  rw [scales_eq]
  exact hidden_eq _ _ _ _ _

/-- The reference's normalised rows from the converted scales. -/
theorem second_result (c : Dev nD) :
    val_main_v53 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (reg_main_v0 m c) = rnorm m c := by
  rw [scales_eq]
  exact normed_eq _ _ _ _ _ _

set_option maxHeartbeats 2000000 in
/-- The run, read: both results at their formulas and the arguments unchanged. -/
theorem run : θ_run defs (onTc (τ := τ) (main (F := Ideal))) ⟨m, fun _ => 0, ρ⟩ fun r => ∀ c : Dev nD,
      r.2.mem ((c.tc : Thread nD τ).loc main_v38) = rhid m c
      ∧ r.2.mem ((c.tc : Thread nD τ).loc main_v53) = rnorm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (first_result m c), (h c).2.1.trans (second_result m c), (h c).2.2⟩)
    (Cert.OprojReferenceIdeal.Value.run m ρ)

end Cert.OprojReferenceIdeal.Hand

end
-- ==== Proof.ORef.Finite.lean ====
/-
  What the output projection's precondition says of each scale.
-/
module

public import proofs.«01_k».proof.Defs
public import proofs.«01_k».proof.Proof.Ref.Finite
public import proofs.«01_k».proof.Proof.Gen.Pre_finite_oproj_scales
public import Idealize.ShloMosaic.Lib.ReduceAll

@[expose] public section

noncomputable section

namespace Cert.FiniteOproj

open Idealize.ShloMosaic Cert.Pre_finite_oproj_scales

instance : Subsingleton S_.Idx := ⟨fun a b => funext fun i => i.elim0⟩

/-- Under the precondition no scale's exponent bits are all ones. -/
theorem of_pre (x0 x1 : FVec Ideal S3200x3584 .bf16) (x2 : FVec Ideal S3584 .f32) (x3 : IVec S448x3584 32) (x4 : IVec S28x448 32) (x5 : IVec S28x3584 16)
    (h : Cert.Pre_finite_oproj_scales.fn (F := Ideal) x0 x1 x2 x3 x4 x5 = fun _ => 1#1) (j : S28x3584.Idx) : (x5 j).toNat / 1024 % 32 ≠ 31 :=
  Cert.Finite.exponent_ne _ (Host.reduce_andi_all _ _ _ _ _ (congrFun h (fun a => a.elim0)) j)

end Cert.FiniteOproj

end
-- ==== Proof.lean ====
/- The proof of the certificate's claims: the frames, the agreement of the program with its idealized reading, and the
   value the idealized kernel and the idealized reference share. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite_scales
public import proofs.«01_k».proof.Proof.Gen.Oproj
public import proofs.«01_k».proof.Proof.Gen.Oproj.Frame
public import proofs.«01_k».proof.Proof.Gen.OprojIdeal
public import proofs.«01_k».proof.Proof.Gen.OprojIdeal.Frame
public import proofs.«01_k».proof.Proof.Gen.OprojReferenceIdeal
public import proofs.«01_k».proof.Proof.Gen.OprojReferenceIdeal.Frame
public import proofs.«01_k».proof.Proof.Gen.OprojReferenceIdeal.Run
public import proofs.«01_k».proof.Proof.Gen.OprojReferenceIdeal.Read
public import proofs.«01_k».proof.Proof.Gen.Pre_finite_oproj_scales
public import proofs.«01_k».proof.Proof.KBits.Frame
public import proofs.«01_k».proof.Proof.KIdeal.Frame
public import proofs.«01_k».proof.Proof.KIdeal.Value
public import proofs.«01_k».proof.Proof.Ref.Value
public import proofs.«01_k».proof.Proof.Ref.Finite
public import proofs.«01_k».proof.Proof.OIdeal.Value
public import proofs.«01_k».proof.Proof.ORef.Value
public import proofs.«01_k».proof.Proof.ORef.Finite
public import Idealize.ShloMosaic.Adequacy
public import Idealize.ShloMosaic.Init

@[expose] public section

noncomputable section

namespace Cert.Proof

open Idealize.ShloMosaic Idealize.SL.Sem Cert.Kernel

/-- At equal arguments whose scales are finite the kernel's formula and the reference's are one. -/
theorem vals_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_scales m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.rval m' c = Cert.KernelIdeal.Named.kval m c := by
  unfold Cert.ReferenceIdeal.Hand.rval Cert.KernelIdeal.Named.kval
  rw [h0, h1, h2, h3, h4, h5, h6, Cert.KernelIdeal.Gen.V_main_arg0, Cert.KernelIdeal.Gen.V_main_arg1, Cert.KernelIdeal.Gen.V_main_arg2,
    Cert.KernelIdeal.Gen.V_main_arg3, Cert.KernelIdeal.Gen.V_main_arg4, Cert.KernelIdeal.Gen.V_main_arg5, Cert.KernelIdeal.Gen.V_main_arg6]
  have hf := Cert.Finite.of_pre _ _ _ _ _ _ _ (hp c)
  congr 1
  · exact funext fun j => (Cert.KernelIdeal.Hand.halfVal_eq _ (hf j).1).symm
  · exact funext fun j => (Cert.KernelIdeal.Hand.halfVal_eq _ (hf j).2).symm

/-- The idealized kernel and the idealized reference leave the same result at equal arguments with finite scales. -/
theorem value : Cert.algebraic_KernelIdeal_ReferenceIdeal_pre_finite_scales := fun m g m' g' hp h =>
  ⟨fun c => Cert.KernelIdeal.Named.kval m c,
    Cert.KernelIdeal.Named.run m g,
    (θ_run Cert.ReferenceIdeal.defs _ _).mono (fun _ hr c =>
      ⟨(hr c).1.trans (vals_eq m m' hp c (h c).1 (h c).2.1 (h c).2.2.1 (h c).2.2.2.1 (h c).2.2.2.2.1 (h c).2.2.2.2.2.1 (h c).2.2.2.2.2.2),
        (hr c).2⟩) (Cert.ReferenceIdeal.Hand.run m' g')⟩

/-- At equal arguments whose scales are finite the output projection's formulas and its reference's are one. -/
theorem hid_eq (m : (ℓ : Loc Cert.OprojIdeal.nD Cert.OprojIdeal.τ Cert.OprojIdeal.sig) → Buf (Elt Ideal) ℓ)
    (m' : (ℓ : Loc Cert.OprojReferenceIdeal.nD Cert.OprojReferenceIdeal.τ Cert.OprojReferenceIdeal.sig) → Buf (Elt Ideal) ℓ)
    (hp : Cert.Pre_OprojIdeal_finite_oproj_scales m) (c : Dev Cert.OprojIdeal.nD)
    (h0 : m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0))
    (h1 : m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1))
    (h2 : m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2))
    (h3 : m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3))
    (h4 : m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4))
    (h5 : m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)) :
    Cert.OprojReferenceIdeal.Hand.rhid m' c = Cert.OprojIdeal.Hand.khid m c ∧ Cert.OprojReferenceIdeal.Hand.rnorm m' c = Cert.OprojIdeal.Hand.knorm m c := by
  have hf := Cert.FiniteOproj.of_pre _ _ _ _ _ _ (hp c)
  have e : Cert.OprojReferenceIdeal.Hand.rhid m' c = Cert.OprojIdeal.Hand.khid m c := by
    unfold Cert.OprojReferenceIdeal.Hand.rhid Cert.OprojIdeal.Hand.khid Cert.OprojIdeal.Hand.Wt Cert.OprojIdeal.Hand.bitsW
    rw [h0, h1, h3, h4, h5, Cert.OprojIdeal.Gen.V_main_arg0, Cert.OprojIdeal.Gen.V_main_arg1, Cert.OprojIdeal.Gen.V_main_arg3, Cert.OprojIdeal.Gen.V_main_arg4, Cert.OprojIdeal.Gen.V_main_arg5]
    congr 2
    exact funext fun j => (Cert.KernelIdeal.Hand.halfVal_eq _ (hf j)).symm
  refine ⟨e, ?_⟩
  unfold Cert.OprojReferenceIdeal.Hand.rnorm Cert.OprojIdeal.Hand.knorm
  rw [e, h2]

/-- The idealized output projection and its idealized reference leave the same two results at equal arguments with finite scales. -/
theorem ovalue : Cert.algebraic_OprojIdeal_OprojReferenceIdeal_pre_finite_oproj_scales := fun m g m' g' hp h =>
  ⟨fun c => Cert.OprojIdeal.Hand.khid m c, fun c => Cert.OprojIdeal.Hand.knorm m c,
    Cert.OprojIdeal.Hand.run m g,
    (θ_run Cert.OprojReferenceIdeal.defs _ _).mono (fun _ hr c =>
      have e := hid_eq m m' hp c (h c).1 (h c).2.1 (h c).2.2.1 (h c).2.2.2.1 (h c).2.2.2.2.1 (h c).2.2.2.2.2
      ⟨(hr c).1.trans e.1, (hr c).2.1.trans e.2, (hr c).2.2⟩) (Cert.OprojReferenceIdeal.Hand.run m' g')⟩

/-- All the claims of the certificate. -/
theorem claim : Cert.Claim := ⟨Cert.Kernel.Gen.facts, Cert.KernelIdeal.Gen.facts, Cert.ReferenceIdeal.Gen.facts,
  Cert.Oproj.Gen.facts, Cert.OprojIdeal.Gen.facts, Cert.OprojReferenceIdeal.Gen.facts,
  Cert.Pre_finite_scales.Gen.facts, Cert.Pre_finite_oproj_scales.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  fun m ρ _ => Cert.Oproj.Gen.frame m ρ,
  fun m ρ _ => Cert.OprojIdeal.Gen.frame m ρ,
  fun m ρ _ => Cert.OprojIdeal.Gen.frame m ρ,
  fun m ρ _ => Cert.OprojReferenceIdeal.Gen.frame m ρ,
  fun m ρ _ => Cert.OprojReferenceIdeal.Gen.frame m ρ,
  trivial,
  value,
  trivial,
  ovalue⟩

end Cert.Proof

end
